-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_one_maximum [hPre_one_maximum : Cert.Pre_one_maximum.Facts] (m : (ℓ : Loc Cert.KernelIdeal.nD Cert.KernelIdeal.τ Cert.KernelIdeal.sig) → Buf (Elt Ideal) ℓ) : Prop :=
  ∀ c : Dev Cert.KernelIdeal.nD,
    (Cert.Pre_one_maximum.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_maximum [hPre_one_maximum : Cert.Pre_one_maximum.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_maximum.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_one_maximum [hKernelIdeal : Cert.KernelIdeal.Facts] [hPre_one_maximum : Cert.Pre_one_maximum.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_one_maximum m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_one_maximum [hReferenceIdeal : Cert.ReferenceIdeal.Facts] [hPre_one_maximum : Cert.Pre_one_maximum.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_maximum m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "b1" .f32 0x3D888889#32 ((1 / 15 : ℝ) : EReal)
  ∧ IdealRules.named_const.Statement Cert.KernelIdeal.κ "b2" .f32 0x3E088889#32 ((2 / 15 : ℝ) : EReal)
  ∧ IdealRules.named_const.Statement Cert.KernelIdeal.κ "b3" .f32 0x3E4CCCCD#32 ((1 / 5 : ℝ) : EReal)
  ∧ IdealRules.named_const.Statement Cert.KernelIdeal.κ "b4" .f32 0x3E888889#32 ((4 / 15 : ℝ) : EReal)
  ∧ IdealRules.named_const.Statement Cert.KernelIdeal.κ "b5" .f32 0x3EAAAAAB#32 ((1 / 3 : ℝ) : EReal)
  ∧ IdealRules.named_const.Statement Cert.KernelIdeal.κ "b6" .f32 0x3ECCCCCD#32 ((2 / 5 : ℝ) : EReal)
  ∧ IdealRules.named_const.Statement Cert.KernelIdeal.κ "b7" .f32 0x3EEEEEEF#32 ((7 / 15 : ℝ) : EReal)
  ∧ IdealRules.named_const.Statement Cert.KernelIdeal.κ "b8" .f32 0x3F088889#32 ((8 / 15 : ℝ) : EReal)
  ∧ IdealRules.named_const.Statement Cert.KernelIdeal.κ "b9" .f32 0x3F19999A#32 ((3 / 5 : ℝ) : EReal)
  ∧ IdealRules.named_const.Statement Cert.KernelIdeal.κ "b10" .f32 0x3F2AAAAB#32 ((2 / 3 : ℝ) : EReal)
  ∧ IdealRules.named_const.Statement Cert.KernelIdeal.κ "b11" .f32 0x3F3BBBBC#32 ((11 / 15 : ℝ) : EReal)
  ∧ IdealRules.named_const.Statement Cert.KernelIdeal.κ "b12" .f32 0x3F4CCCCD#32 ((4 / 5 : ℝ) : EReal)
  ∧ IdealRules.named_const.Statement Cert.KernelIdeal.κ "b13" .f32 0x3F5DDDDE#32 ((13 / 15 : ℝ) : EReal)
  ∧ IdealRules.named_const.Statement Cert.KernelIdeal.κ "b14" .f32 0x3F6EEEEF#32 ((14 / 15 : ℝ) : EReal)

def algebraic_KernelIdeal_ReferenceIdeal_pre_one_maximum [hKernelIdeal : Cert.KernelIdeal.Facts] [hReferenceIdeal : Cert.ReferenceIdeal.Facts] [hPre_one_maximum : Cert.Pre_one_maximum.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_one_maximum m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_one_maximum : Cert.Pre_one_maximum.Facts),
    quiescent_Kernel (hKernel := hKernel)
    ∧ quiescent_KernelIdeal (hKernelIdeal := hKernelIdeal)
    ∧ quiescent_KernelIdeal_pre_one_maximum (hKernelIdeal := hKernelIdeal) (hPre_one_maximum := hPre_one_maximum)
    ∧ quiescent_ReferenceIdeal (hReferenceIdeal := hReferenceIdeal)
    ∧ quiescent_ReferenceIdeal_pre_one_maximum (hReferenceIdeal := hReferenceIdeal) (hPre_one_maximum := hPre_one_maximum)
    ∧ preserves_Kernel_KernelIdeal
    ∧ algebraic_KernelIdeal_ReferenceIdeal_pre_one_maximum (hKernelIdeal := hKernelIdeal) (hReferenceIdeal := hReferenceIdeal) (hPre_one_maximum := hPre_one_maximum)
-- ==== Pre_one_maximum.lean ====
abbrev S1000000x100 : Shape := ⟨2, ![1000000, 100]⟩
abbrev S1000000 : Shape := ⟨1, ![1000000]⟩
abbrev S_ : Shape := ⟨0, ![]⟩
abbrev S1000000x1 : Shape := ⟨2, ![1000000, 1]⟩

class Facts : Prop where
  reducesTo_S1000000x100_S1000000_d1 : S1000000x100.ReducesTo [1] S1000000
  h_S_ : 0 < S_.numel
  bcast_S1000000_S1000000x1_0 : S1000000.BroadcastsInDim S1000000x1 (![0] : Fin 1 → Fin S1000000x1.rank)
  bcast_S1000000x1_S1000000x100_0_1 : S1000000x1.BroadcastsInDim S1000000x100 (![0, 1] : Fin 2 → Fin S1000000x100.rank)
  natLt_1_32 : 1 < 32
  bcast_S_S1000000 : S_.BroadcastsInDim S1000000 (![] : Fin 0 → Fin S1000000.rank)

variable [Facts]

def fn {F : FTy → Type} [FloatOps F] (main_arg0 : FVec F S1000000x100 .f32) (main_arg1 : IVec S1000000 32) : IVec S1000000 1 :=
  let main_cst : FVec F S_ .f32 := constant S_ .f32 0xFF800000#32
  let main_v0 : FVec F S1000000 .f32 := (fun x v => Host.reduce FloatOps.maximumf x v reducesTo_S1000000x100_S1000000_d1 h_S_) main_arg0 main_cst
  let main_v1 : FVec F S1000000x1 .f32 := broadcastInDim S1000000x1 ![0] bcast_S1000000_S1000000x1_0 main_v0
  let main_v2 : FVec F S1000000x100 .f32 := broadcastInDim S1000000x100 ![0, 1] bcast_S1000000x1_S1000000x100_0_1 main_v1
  let main_v3 : IVec S1000000x100 1 := cmpf .oeq main_arg0 main_v2
  let main_v4 : IVec S1000000x100 32 := (extui 32 · natLt_1_32) main_v3
  let main_c : IVec S_ 32 := constantI S_ 32 0#32
  let main_v5 : IVec S1000000 32 := (fun x v => Host.reduce IntOp.addi x v reducesTo_S1000000x100_S1000000_d1 h_S_) main_v4 main_c
  let main_c_0 : IVec S_ 32 := constantI S_ 32 1#32
  let main_v6 : IVec S1000000 32 := broadcastInDim S1000000 ![] bcast_S_S1000000 main_c_0
  let main_v7 : IVec S1000000 1 := cmpi .eq main_v5 main_v6
  main_v7
-- ==== Kernel.lean ====
abbrev S1000000x100 : Shape := ⟨2, ![1000000, 100]⟩
abbrev S1000000 : Shape := ⟨1, ![1000000]⟩
abbrev S100 : Shape := ⟨1, ![100]⟩
abbrev S100x1 : Shape := ⟨2, ![100, 1]⟩
abbrev S250x1x4000 : Shape := ⟨3, ![250, 1, 4000]⟩
abbrev S4000x100 : Shape := ⟨2, ![4000, 100]⟩
abbrev S1x1x4000 : Shape := ⟨3, ![1, 1, 4000]⟩
abbrev S4000 : Shape := ⟨1, ![4000]⟩
abbrev S4000x1 : Shape := ⟨2, ![4000, 1]⟩
abbrev S_ : Shape := ⟨0, ![]⟩
abbrev S448 : Shape := ⟨1, ![448]⟩
abbrev S1000448 : Shape := ⟨1, ![1000448]⟩
abbrev S32x48 : Shape := ⟨2, ![32, 48]⟩
abbrev S31264 : Shape := ⟨1, ![31264]⟩
abbrev S256 : Shape := ⟨1, ![256]⟩
abbrev S48 : Shape := ⟨1, ![48]⟩
abbrev S16 : Shape := ⟨1, ![16]⟩
abbrev S1x48 : Shape := ⟨2, ![1, 48]⟩
abbrev S2x16 : Shape := ⟨2, ![2, 16]⟩
abbrev S1x16 : Shape := ⟨2, ![1, 16]⟩
abbrev S1x15 : Shape := ⟨2, ![1, 15]⟩
abbrev S15 : Shape := ⟨1, ![15]⟩

abbrev nBuf : Table → Nat
  | .hbm => 20
  | .local .tc .vmem => 7
  | .local .scVector .vmem => 6
  | _ => 0

abbrev bufTy : (tb : Table) → Fin (nBuf tb) → BufTy
  | .hbm, ⟨0, _⟩ => ⟨S1000000x100, .f32⟩
  | .hbm, ⟨1, _⟩ => ⟨S1000000, .i32⟩
  | .hbm, ⟨2, _⟩ => ⟨S100, .f32⟩
  | .hbm, ⟨3, _⟩ => ⟨S100x1, .f32⟩
  | .hbm, ⟨4, _⟩ => ⟨S250x1x4000, .f32⟩
  | .hbm, ⟨5, _⟩ => ⟨S_, .f32⟩
  | .hbm, ⟨6, _⟩ => ⟨S448, .f32⟩
  | .hbm, ⟨7, _⟩ => ⟨S1000000, .f32⟩
  | .hbm, ⟨8, _⟩ => ⟨S1000448, .f32⟩
  | .hbm, ⟨9, _⟩ => ⟨S1000000, .f32⟩
  | .hbm, ⟨10, _⟩ => ⟨S_, .f32⟩
  | .hbm, ⟨11, _⟩ => ⟨S448, .f32⟩
  | .hbm, ⟨12, _⟩ => ⟨S448, .f32⟩
  | .hbm, ⟨13, _⟩ => ⟨S1000448, .f32⟩
  | .hbm, ⟨14, _⟩ => ⟨S32x48, .f32⟩
  | .hbm, ⟨15, _⟩ => ⟨S2x16, .f32⟩
  | .hbm, ⟨16, _⟩ => ⟨S1x15, .f32⟩
  | .hbm, ⟨17, _⟩ => ⟨S15, .f32⟩
  | .hbm, ⟨18, _⟩ => ⟨S1x15, .f32⟩
  | .hbm, ⟨19, _⟩ => ⟨S15, .f32⟩
  | .local .tc .vmem, ⟨0, _⟩ => ⟨S4000x100, .f32⟩
  | .local .tc .vmem, ⟨1, _⟩ => ⟨S4000x100, .f32⟩
  | .local .tc .vmem, ⟨2, _⟩ => ⟨S100x1, .f32⟩
  | .local .tc .vmem, ⟨3, _⟩ => ⟨S1x1x4000, .f32⟩
  | .local .tc .vmem, ⟨4, _⟩ => ⟨S1x1x4000, .f32⟩
  | .local .tc .vmem, ⟨5, _⟩ => ⟨S32x48, .f32⟩
  | .local .tc .vmem, ⟨6, _⟩ => ⟨S2x16, .f32⟩
  | .local .scVector .vmem, ⟨0, _⟩ => ⟨S31264, .f32⟩
  | .local .scVector .vmem, ⟨1, _⟩ => ⟨S31264, .f32⟩
  | .local .scVector .vmem, ⟨2, _⟩ => ⟨S256, .f32⟩
  | .local .scVector .vmem, ⟨3, _⟩ => ⟨S256, .f32⟩
  | .local .scVector .vmem, ⟨4, _⟩ => ⟨S256, .f32⟩
  | .local .scVector .vmem, ⟨5, _⟩ => ⟨S48, .f32⟩
  | _, _ => ⟨S1000000x100, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v5_scv : Ref sig .scVector := ⟨.hbm, 8, rfl⟩
abbrev main_v9_scv : Ref sig .scVector := ⟨.hbm, 13, rfl⟩
abbrev main_v10_scv : Ref sig .scVector := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc2_stg0_0 : Ref sig .tc := ⟨.vmem, 5, rfl⟩
abbrev cc2_stg1_0 : Ref sig .tc := ⟨.vmem, 6, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc2_sem0_0 : DmaSem sig := 8
abbrev cc2_sem1_0 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c31264_i32 : BitVec 32 := 31264#32
  let v2 : BitVec 32 := Scalar.muli v1 c31264_i32
  ![v2.toNat]
@[reducible] def k1_t1_loop : Scf.Loop 32 :=
  let c0_i32_34 : BitVec 32 := 0#32
  let c1954_i32 : BitVec 32 := 1954#32
  let v58 : BitVec 32 := Scalar.addi c0_i32_34 c1954_i32
  let c1_i32_35 : BitVec 32 := 1#32
  ⟨c0_i32_34, v58, c1_i32_35⟩
def k1_off2 (k1_t1 : Fin k1_t1_loop.trips) : Fin 1 → Nat :=
  let c0_i32_34 : BitVec 32 := 0#32
  let c1_i32_35 : BitVec 32 := 1#32
  let arg11 : BitVec 32 := Scf.iv c0_i32_34 c1_i32_35 k1_t1
  let c16_i32_88 : BitVec 32 := 16#32
  let v155 : BitVec 32 := Scalar.muli arg11 c16_i32_88
  let v156 : Index := Scalar.indexCast v155
  ![v156.toNat]

def k1_chk1 (v247 : IVec S16 32) : Prop :=
  (∀ a x, ((![v247] : Fin 1 → IVec S16 32) a x).toNat < S256.size a) ∧
  (∀ a x, ((![v247] : Fin 1 → IVec S16 32) a x).toNat < S256.size a) ∧
  (∀ a x, ((![v247] : Fin 1 → IVec S16 32) a x).toNat < S256.size a)
theorem k1_idx1_inb : ∀ (v247 : IVec S16 32) (k1_hw1 : k1_chk1 v247), ∀ a x, ((![v247] : Fin 1 → IVec S16 32) a x).toNat < S256.size a := fun v247 k1_hw1 => k1_hw1.1
theorem k1_idx2_inb : ∀ (v247 : IVec S16 32) (k1_hw1 : k1_chk1 v247), ∀ a x, ((![v247] : Fin 1 → IVec S16 32) a x).toNat < S256.size a := fun v247 k1_hw1 => k1_hw1.2.1
theorem k1_idx3_inb : ∀ (v247 : IVec S16 32) (k1_hw1 : k1_chk1 v247), ∀ a x, ((![v247] : Fin 1 → IVec S16 32) a x).toNat < S256.size a := fun v247 k1_hw1 => k1_hw1.2.2
def k1_off3 (i : grid1.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_88_r2 : BitVec 32 := 0#32
  ![v1.toNat, 0]
abbrev grid2 : Pipeline.Grid := .none

abbrev stage2_0 : Fin 1 → Memref sig .tc .vmem S32x48 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S2x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "b1" => some ((1 / 15 : ℝ) : EReal)
  | "b10" => some ((2 / 3 : ℝ) : EReal)
  | "b11" => some ((11 / 15 : ℝ) : EReal)
  | "b12" => some ((4 / 5 : ℝ) : EReal)
  | "b13" => some ((13 / 15 : ℝ) : EReal)
  | "b14" => some ((14 / 15 : ℝ) : EReal)
  | "b2" => some ((2 / 15 : ℝ) : EReal)
  | "b3" => some ((1 / 5 : ℝ) : EReal)
  | "b4" => some ((4 / 15 : ℝ) : EReal)
  | "b5" => some ((1 / 3 : ℝ) : EReal)
  | "b6" => some ((2 / 5 : ℝ) : EReal)
  | "b7" => some ((7 / 15 : ℝ) : EReal)
  | "b8" => some ((8 / 15 : ℝ) : EReal)
  | "b9" => some ((3 / 5 : ℝ) : EReal)
  | _ => none
-- ==== ReferenceIdeal.lean ====
abbrev S1000000x100 : Shape := ⟨2, ![1000000, 100]⟩
abbrev S1000000 : Shape := ⟨1, ![1000000]⟩
abbrev S_ : Shape := ⟨0, ![]⟩
abbrev S15 : Shape := ⟨1, ![15]⟩
abbrev S1 : Shape := ⟨1, ![1]⟩
abbrev S16 : Shape := ⟨1, ![16]⟩
abbrev S1000000x1 : Shape := ⟨2, ![1000000, 1]⟩
abbrev S1x1000000 : Shape := ⟨2, ![1, 1000000]⟩
abbrev S15x1 : Shape := ⟨2, ![15, 1]⟩
abbrev S15x1000000 : Shape := ⟨2, ![15, 1000000]⟩

abbrev nBuf : Space → Nat
  | .hbm => 93
  | .vmem => 0
  | .smem => 0
  | _ => 0

abbrev bufTy : (tb : Table) → Fin (tcTables nBuf tb) → BufTy
  | .hbm, ⟨0, _⟩ => ⟨S1000000x100, .f32⟩
  | .hbm, ⟨1, _⟩ => ⟨S1000000, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S15, .f32⟩
  | .hbm, ⟨10, _⟩ => ⟨S_, .f32⟩
  | .hbm, ⟨11, _⟩ => ⟨S15, .f32⟩
  | .hbm, ⟨12, _⟩ => ⟨S15, .f32⟩
  | .hbm, ⟨13, _⟩ => ⟨S1, .f32⟩
  | .hbm, ⟨14, _⟩ => ⟨S_, .f32⟩
  | .hbm, ⟨15, _⟩ => ⟨S15, .f32⟩
  | .hbm, ⟨16, _⟩ => ⟨S15, .f32⟩
  | .hbm, ⟨17, _⟩ => ⟨S15, .f32⟩
  | .hbm, ⟨18, _⟩ => ⟨S15, .f32⟩
  | .hbm, ⟨19, _⟩ => ⟨S1, .f32⟩
  | .hbm, ⟨20, _⟩ => ⟨S15, .f32⟩
  | .hbm, ⟨21, _⟩ => ⟨S15, .f32⟩
  | .hbm, ⟨22, _⟩ => ⟨S15, .f32⟩
  | .hbm, ⟨23, _⟩ => ⟨S1, .f32⟩
  | .hbm, ⟨24, _⟩ => ⟨S16, .f32⟩
  | .hbm, ⟨25, _⟩ => ⟨S15, .f32⟩
  | .hbm, ⟨26, _⟩ => ⟨S15, .f32⟩
  | .hbm, ⟨27, _⟩ => ⟨S_, .f32⟩
  | .hbm, ⟨28, _⟩ => ⟨S1000000, .f32⟩
  | .hbm, ⟨29, _⟩ => ⟨S_, .f32⟩
  | .hbm, ⟨30, _⟩ => ⟨S1000000, .f32⟩
  | .hbm, ⟨31, _⟩ => ⟨S1000000, .f32⟩
  | .hbm, ⟨32, _⟩ => ⟨S1000000x1, .f32⟩
  | .hbm, ⟨33, _⟩ => ⟨S1000000x100, .f32⟩
  | .hbm, ⟨34, _⟩ => ⟨S1000000x100, .f32⟩
  | .hbm, ⟨35, _⟩ => ⟨S1000000x100, .f32⟩
  | .hbm, ⟨36, _⟩ => ⟨S_, .f32⟩
  | .hbm, ⟨37, _⟩ => ⟨S1000000, .f32⟩
  | .hbm, ⟨38, _⟩ => ⟨S1000000x1, .f32⟩
  | .hbm, ⟨39, _⟩ => ⟨S1000000x100, .f32⟩
  | .hbm, ⟨40, _⟩ => ⟨S1000000x100, .f32⟩
  | .hbm, ⟨41, _⟩ => ⟨S_, .f32⟩
  | .hbm, ⟨42, _⟩ => ⟨S1000000, .f32⟩
  | .hbm, ⟨43, _⟩ => ⟨S1000000x100, .i32⟩
  | .hbm, ⟨44, _⟩ => ⟨S_, .f32⟩
  | .hbm, ⟨45, _⟩ => ⟨S_, .i32⟩
  | .hbm, ⟨46, _⟩ => ⟨S1000000, .f32⟩
  | .hbm, ⟨47, _⟩ => ⟨S1000000, .i32⟩
  | .hbm, ⟨48, _⟩ => ⟨S1000000, .i1⟩
  | .hbm, ⟨49, _⟩ => ⟨S1000000, .f32⟩
  | .hbm, ⟨50, _⟩ => ⟨S1x1000000, .f32⟩
  | .hbm, ⟨51, _⟩ => ⟨S15x1, .f32⟩
  | .hbm, ⟨52, _⟩ => ⟨S15x1000000, .f32⟩
  | .hbm, ⟨53, _⟩ => ⟨S15x1000000, .f32⟩
  | .hbm, ⟨54, _⟩ => ⟨S15x1000000, .i1⟩
  | .hbm, ⟨55, _⟩ => ⟨S1x1000000, .f32⟩
  | .hbm, ⟨56, _⟩ => ⟨S15x1, .f32⟩
  | .hbm, ⟨57, _⟩ => ⟨S15x1000000, .f32⟩
  | .hbm, ⟨58, _⟩ => ⟨S15x1000000, .f32⟩
  | .hbm, ⟨59, _⟩ => ⟨S15x1000000, .i1⟩
  | .hbm, ⟨60, _⟩ => ⟨S15x1000000, .i1⟩
  | .hbm, ⟨61, _⟩ => ⟨S15x1000000, .f32⟩
  | .hbm, ⟨62, _⟩ => ⟨S_, .f32⟩
  | .hbm, ⟨63, _⟩ => ⟨S15, .f32⟩
  | .hbm, ⟨64, _⟩ => ⟨S_, .f32⟩
  | .hbm, ⟨65, _⟩ => ⟨S15, .f32⟩
  | .hbm, ⟨66, _⟩ => ⟨S15, .f32⟩
  | .hbm, ⟨67, _⟩ => ⟨S1x1000000, .f32⟩
  | .hbm, ⟨68, _⟩ => ⟨S15x1000000, .f32⟩
  | .hbm, ⟨69, _⟩ => ⟨S15x1000000, .f32⟩
  | .hbm, ⟨70, _⟩ => ⟨S_, .f32⟩
  | .hbm, ⟨71, _⟩ => ⟨S15, .f32⟩
  | .hbm, ⟨72, _⟩ => ⟨S1x1000000, .f32⟩
  | .hbm, ⟨73, _⟩ => ⟨S15x1000000, .f32⟩
  | .hbm, ⟨74, _⟩ => ⟨S15x1000000, .f32⟩
  | .hbm, ⟨75, _⟩ => ⟨S_, .f32⟩
  | .hbm, ⟨76, _⟩ => ⟨S15, .f32⟩
  | .hbm, ⟨77, _⟩ => ⟨S_, .f32⟩
  | .hbm, ⟨78, _⟩ => ⟨S15, .f32⟩
  | .hbm, ⟨79, _⟩ => ⟨S15, .i1⟩
  | .hbm, ⟨80, _⟩ => ⟨S15, .f32⟩
  | .hbm, ⟨81, _⟩ => ⟨S_, .f32⟩
  | .hbm, ⟨82, _⟩ => ⟨S_, .f32⟩
  | .hbm, ⟨83, _⟩ => ⟨S15, .f32⟩
  | .hbm, ⟨84, _⟩ => ⟨S15, .f32⟩
  | .hbm, ⟨85, _⟩ => ⟨S_, .f32⟩
  | .hbm, ⟨86, _⟩ => ⟨S15, .f32⟩
  | .hbm, ⟨87, _⟩ => ⟨S15, .i1⟩
  | .hbm, ⟨88, _⟩ => ⟨S15, .f32⟩
  | .hbm, ⟨89, _⟩ => ⟨S_, .f32⟩
  | .hbm, ⟨90, _⟩ => ⟨S_, .f32⟩
  | .hbm, ⟨91, _⟩ => ⟨S15, .f32⟩
  | .hbm, ⟨92, _⟩ => ⟨S15, .f32⟩
  | _, _ => ⟨S1000000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_cst_1 : Ref sig .tc := ⟨.hbm, 27, rfl⟩
abbrev main_v3 : Ref sig .tc := ⟨.hbm, 28, rfl⟩
abbrev main_cst_2 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_cst_3 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst_4 : Ref sig .tc := ⟨.hbm, 41, rfl⟩
abbrev main_v14 : Ref sig .tc := ⟨.hbm, 42, rfl⟩
abbrev main_call1_v0 : Ref sig .tc := ⟨.hbm, 43, rfl⟩
abbrev main_call1_cst : Ref sig .tc := ⟨.hbm, 44, rfl⟩
abbrev main_call1_c : Ref sig .tc := ⟨.hbm, 45, rfl⟩
abbrev main_call1_v1_0 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_5 : Ref sig .tc := ⟨.hbm, 62, rfl⟩
abbrev main_v30 : Ref sig .tc := ⟨.hbm, 63, rfl⟩
abbrev main_cst_6 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_cst_7 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_cst_8 : Ref sig .tc := ⟨.hbm, 75, rfl⟩
abbrev main_v40 : Ref sig .tc := ⟨.hbm, 76, rfl⟩
abbrev main_cst_9 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_cst_10 : Ref sig .tc := ⟨.hbm, 81, rfl⟩
abbrev main_call2_v0 : Ref sig .tc := ⟨.hbm, 82, rfl⟩
abbrev main_call2_v1 : Ref sig .tc := ⟨.hbm, 83, rfl⟩
abbrev main_v44 : Ref sig .tc := ⟨.hbm, 84, rfl⟩
abbrev main_cst_11 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_cst_12 : Ref sig .tc := ⟨.hbm, 89, rfl⟩
abbrev main_call3_v0 : Ref sig .tc := ⟨.hbm, 90, rfl⟩
abbrev main_call3_v1 : Ref sig .tc := ⟨.hbm, 91, rfl⟩
abbrev main_v48 : Ref sig .tc := ⟨.hbm, 92, rfl⟩

abbrev nD : Nat := 1
abbrev τ : Topo := Topo.v7x

variable {F : FTy → Type} [FloatOps F]
-- ==== Proof.Reference.lean ====
/-
  The reference's @main as a list of its host operations, its two results as functions of the arguments, stage by
  stage, and its run: it terminates with the results at those functions of the arguments.
-/
module

public import proofs.«01_k».proof.Proof.Gen.ReferenceIdeal
public import Idealize.ShloMosaic.Lib.StableHlo.Run

@[expose] public section

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-! ## The values -/

/-- The last point joined to the fifteen before it. -/
def join (a : FVec F S15 .f32) (b : FVec F S1 .f32) : FVec F S16 .f32 := concatenate S16 0 [⟨S15, a⟩, ⟨S1, b⟩] concatenates_S15_S1_S16_d0

/-- i/15 for i below fifteen. -/
def frac : FVec F S15 .f32 := Host.divf (sitofp .f32 (iotaInDim S15 32 0)) (broadcastInDim S15 ![] bcast_S_S15 (constant S_ .f32 0x41700000#32))

/-- The sixteen points of the linspace from 0 to 1. -/
def points : FVec F S16 .f32 :=
  join (addf (mulf (broadcastInDim S15 ![0] bcast_S1_S15_0 (shapeCast S1 (constant S_ .f32 0x00000000#32) shapeCasts_S_S1))
      (subf (broadcastInDim S15 ![] bcast_S_S15 (constant S_ .f32 0x3F800000#32)) frac))
    (mulf (broadcastInDim S15 ![0] bcast_S1_S15_0 (shapeCast S1 (constant S_ .f32 0x3F800000#32) shapeCasts_S_S1)) frac))
    (broadcastInDim S1 ![] bcast_S_S1 (constant S_ .f32 0x3F800000#32))

/-- The bins' lower ends. -/
def lows : FVec F S15 .f32 := extractStridedSlice S15 ![0] points slices_S16_S15_0
/-- The bins' upper ends. -/
def ups : FVec F S15 .f32 := extractStridedSlice S15 ![1] points slices_S16_S15_1

/-- A row vector's entries along every column. -/
def spread (x : FVec F S1000000 .f32) : FVec F S1000000x100 .f32 :=
  broadcastInDim S1000000x100 ![0, 1] bcast_S1000000x1_S1000000x100_0_1 (broadcastInDim S1000000x1 ![0] bcast_S1000000_S1000000x1_0 x)

/-- The greatest entry of each row. -/
def rowMax (X : FVec F S1000000x100 .f32) : FVec F S1000000 .f32 :=
  Host.reduce FloatOps.maximumf X (constant S_ .f32 0xFF800000#32) reducesTo_S1000000x100_S1000000_d1 h_S_

/-- The exponentials of the logits less their row's maximum. -/
def expo (X : FVec F S1000000x100 .f32) : FVec F S1000000x100 .f32 :=
  Host.exp (subf X (spread (maximumf (broadcastInDim S1000000 ![] bcast_S_S1000000 (constant S_ .f32 0xFF800000#32)) (rowMax X))))

/-- The softmax of each row. -/
def soft (X : FVec F S1000000x100 .f32) : FVec F S1000000x100 .f32 :=
  Host.divf (expo X) (spread (Host.reduceAdd (expo X) (constant S_ .f32 0x00000000#32) reducesTo_S1000000x100_S1000000_d1 h_S_))

/-- Each row's predicted class. -/
def pred (X : FVec F S1000000x100 .f32) : IVec S1000000 32 :=
  fun j => (Host.argReduce reducer_argmax_f32_i32 (soft X) (iotaInDim S1000000x100 32 1) (constant S_ .f32 0xFF800000#32) (constantI S_ 32 0#32)
    reducesTo_S1000000x100_S1000000_d1 h_S_ j).2

/-- Each row's hit: one where the predicted class is the label, zero elsewhere. -/
def hits (X : FVec F S1000000x100 .f32) (Y : IVec S1000000 32) : FVec F S1000000 .f32 := uitofp .f32 (cmpi .eq (pred X) Y)

/-- A row vector's entries along every bin. -/
def perRow (x : FVec F S1000000 .f32) : FVec F S15x1000000 .f32 :=
  broadcastInDim S15x1000000 ![0, 1] bcast_S1x1000000_S15x1000000_0_1 (broadcastInDim S1x1000000 ![1] bcast_S1000000_S1x1000000_1 x)
/-- A bin vector's entries along every row. -/
def perBin (x : FVec F S15 .f32) : FVec F S15x1000000 .f32 :=
  broadcastInDim S15x1000000 ![0, 1] bcast_S15x1_S15x1000000_0_1 (broadcastInDim S15x1 ![0] bcast_S15_S15x1_0 x)

/-- One where the row's confidence lies in the bin, zero elsewhere, of the rows' confidences. -/
def inBin (C : FVec F S1000000 .f32) : FVec F S15x1000000 .f32 :=
  uitofp .f32 (andi (cmpf .ogt (perRow C) (perBin lows)) (cmpf .ole (perRow C) (perBin ups)))

/-- The sum over the rows, in each bin. -/
def total (x : FVec F S15x1000000 .f32) : FVec F S15 .f32 :=
  Host.reduceAdd x (constant S_ .f32 0x00000000#32) reducesTo_S15x1000000_S15_d1 h_S_

/-- A constant of each bin. -/
def lit (w : BitVec 32) : FVec F S15 .f32 := broadcastInDim S15 ![] bcast_S_S15 (constant S_ .f32 w)

/-- The mean over each bin's rows of `x`, zero in a bin of no row, of the rows' confidences. -/
def mean (C x : FVec F S1000000 .f32) : FVec F S15 .f32 :=
  select (cmpf .ogt (total (inBin C)) (lit 0x00000000#32))
    (Host.divf (total (mulf (inBin C) (perRow x))) (maximumf (total (inBin C)) (lit 0x3F800000#32))) (lit 0x00000000#32)

/-! ## The run -/

/-- @main's operations, in order. -/
abbrev ops : List (HloOp τ sig (Elt F)) :=
  [ nullary main_cst (constant S_ .f32 0x00000000#32),
    nullary main_cst_0 (constant S_ .f32 0x3F800000#32),
    TRef.unary (TRef.of (T := ⟨S_, .f32⟩) main_cst) (TRef.of (T := ⟨S_, .f32⟩) main_call0_v0) id,
    TRef.unary (TRef.of (T := ⟨S_, .f32⟩) main_cst_0) (TRef.of (T := ⟨S_, .f32⟩) main_call0_v1) id,
    TRef.binary (TRef.of (T := ⟨S_, .f32⟩) main_call0_v1) (TRef.of (T := ⟨S_, .f32⟩) main_call0_v0) (TRef.of (T := ⟨S_, .f32⟩) main_call0_v2) subf,
    TRef.nullary (TRef.of (T := ⟨S_, .f32⟩) main_call0_cst) (constant S_ .f32 0x41700000#32),
    TRef.binary (TRef.of (T := ⟨S_, .f32⟩) main_call0_v2) (TRef.of (T := ⟨S_, .f32⟩) main_call0_cst) (TRef.of (T := ⟨S_, .f32⟩) main_call0_v3) Host.divf,
    TRef.nullary (TRef.of (T := ⟨S15, .f32⟩) main_call0_v4) (sitofp .f32 (iotaInDim S15 32 0)),
    TRef.nullary (TRef.of (T := ⟨S_, .f32⟩) main_call0_cst_0) (constant S_ .f32 0x41700000#32),
    TRef.unary (TRef.of (T := ⟨S_, .f32⟩) main_call0_cst_0) (TRef.of (T := ⟨S15, .f32⟩) main_call0_v5) (broadcastInDim S15 ![] bcast_S_S15),
    TRef.binary (TRef.of (T := ⟨S15, .f32⟩) main_call0_v4) (TRef.of (T := ⟨S15, .f32⟩) main_call0_v5) (TRef.of (T := ⟨S15, .f32⟩) main_call0_v6) Host.divf,
    TRef.reshape (TRef.of (T := ⟨S_, .f32⟩) main_call0_v0) (TRef.of (T := ⟨S1, .f32⟩) main_call0_v7) (rfl : (.f32 : EltTy) = .f32) shapeCasts_S_S1,
    TRef.nullary (TRef.of (T := ⟨S_, .f32⟩) main_call0_cst_1) (constant S_ .f32 0x3F800000#32),
    TRef.unary (TRef.of (T := ⟨S_, .f32⟩) main_call0_cst_1) (TRef.of (T := ⟨S15, .f32⟩) main_call0_v8) (broadcastInDim S15 ![] bcast_S_S15),
    TRef.binary (TRef.of (T := ⟨S15, .f32⟩) main_call0_v8) (TRef.of (T := ⟨S15, .f32⟩) main_call0_v6) (TRef.of (T := ⟨S15, .f32⟩) main_call0_v9) subf,
    TRef.unary (TRef.of (T := ⟨S1, .f32⟩) main_call0_v7) (TRef.of (T := ⟨S15, .f32⟩) main_call0_v10) (broadcastInDim S15 ![0] bcast_S1_S15_0),
    TRef.binary (TRef.of (T := ⟨S15, .f32⟩) main_call0_v10) (TRef.of (T := ⟨S15, .f32⟩) main_call0_v9) (TRef.of (T := ⟨S15, .f32⟩) main_call0_v11) mulf,
    TRef.reshape (TRef.of (T := ⟨S_, .f32⟩) main_call0_v1) (TRef.of (T := ⟨S1, .f32⟩) main_call0_v12) (rfl : (.f32 : EltTy) = .f32) shapeCasts_S_S1,
    TRef.unary (TRef.of (T := ⟨S1, .f32⟩) main_call0_v12) (TRef.of (T := ⟨S15, .f32⟩) main_call0_v13) (broadcastInDim S15 ![0] bcast_S1_S15_0),
    TRef.binary (TRef.of (T := ⟨S15, .f32⟩) main_call0_v13) (TRef.of (T := ⟨S15, .f32⟩) main_call0_v6) (TRef.of (T := ⟨S15, .f32⟩) main_call0_v14) mulf,
    TRef.binary (TRef.of (T := ⟨S15, .f32⟩) main_call0_v11) (TRef.of (T := ⟨S15, .f32⟩) main_call0_v14) (TRef.of (T := ⟨S15, .f32⟩) main_call0_v15) addf,
    TRef.unary (TRef.of (T := ⟨S_, .f32⟩) main_call0_v1) (TRef.of (T := ⟨S1, .f32⟩) main_call0_v16) (broadcastInDim S1 ![] bcast_S_S1),
    TRef.binary (TRef.of (T := ⟨S15, .f32⟩) main_call0_v15) (TRef.of (T := ⟨S1, .f32⟩) main_call0_v16) (TRef.of (T := ⟨S16, .f32⟩) main_v0) (join (F := F)),
    unary main_v0 main_v1 ((extractStridedSlice S15 ![0] · slices_S16_S15_0) : (⟨S16, .f32⟩ : BufTy).Contents (Elt F) → (⟨S15, .f32⟩ : BufTy).Contents (Elt F)),
    unary main_v0 main_v2 ((extractStridedSlice S15 ![1] · slices_S16_S15_1) : (⟨S16, .f32⟩ : BufTy).Contents (Elt F) → (⟨S15, .f32⟩ : BufTy).Contents (Elt F)),
    nullary main_cst_1 (constant S_ .f32 0xFF800000#32),
    binary main_arg0 main_cst_1 main_v3 ((fun x v => Host.reduce FloatOps.maximumf x v reducesTo_S1000000x100_S1000000_d1 h_S_) : (⟨S1000000x100, .f32⟩ : BufTy).Contents (Elt F) → (⟨S_, .f32⟩ : BufTy).Contents (Elt F) → (⟨S1000000, .f32⟩ : BufTy).Contents (Elt F)),
    nullary main_cst_2 (constant S_ .f32 0xFF800000#32),
    unary main_cst_2 main_v4 (broadcastInDim S1000000 ![] bcast_S_S1000000 : (⟨S_, .f32⟩ : BufTy).Contents (Elt F) → (⟨S1000000, .f32⟩ : BufTy).Contents (Elt F)),
    binary main_v4 main_v3 main_v5 (maximumf : (⟨S1000000, .f32⟩ : BufTy).Contents (Elt F) → (⟨S1000000, .f32⟩ : BufTy).Contents (Elt F) → (⟨S1000000, .f32⟩ : BufTy).Contents (Elt F)),
    unary main_v5 main_v6 (broadcastInDim S1000000x1 ![0] bcast_S1000000_S1000000x1_0 : (⟨S1000000, .f32⟩ : BufTy).Contents (Elt F) → (⟨S1000000x1, .f32⟩ : BufTy).Contents (Elt F)),
    unary main_v6 main_v7 (broadcastInDim S1000000x100 ![0, 1] bcast_S1000000x1_S1000000x100_0_1 : (⟨S1000000x1, .f32⟩ : BufTy).Contents (Elt F) → (⟨S1000000x100, .f32⟩ : BufTy).Contents (Elt F)),
    binary main_arg0 main_v7 main_v8 (subf : (⟨S1000000x100, .f32⟩ : BufTy).Contents (Elt F) → (⟨S1000000x100, .f32⟩ : BufTy).Contents (Elt F) → (⟨S1000000x100, .f32⟩ : BufTy).Contents (Elt F)),
    unary main_v8 main_v9 (Host.exp : (⟨S1000000x100, .f32⟩ : BufTy).Contents (Elt F) → (⟨S1000000x100, .f32⟩ : BufTy).Contents (Elt F)),
    nullary main_cst_3 (constant S_ .f32 0x00000000#32),
    binary main_v9 main_cst_3 main_v10 ((fun x v => Host.reduceAdd x v reducesTo_S1000000x100_S1000000_d1 h_S_) : (⟨S1000000x100, .f32⟩ : BufTy).Contents (Elt F) → (⟨S_, .f32⟩ : BufTy).Contents (Elt F) → (⟨S1000000, .f32⟩ : BufTy).Contents (Elt F)),
    unary main_v10 main_v11 (broadcastInDim S1000000x1 ![0] bcast_S1000000_S1000000x1_0 : (⟨S1000000, .f32⟩ : BufTy).Contents (Elt F) → (⟨S1000000x1, .f32⟩ : BufTy).Contents (Elt F)),
    unary main_v11 main_v12 (broadcastInDim S1000000x100 ![0, 1] bcast_S1000000x1_S1000000x100_0_1 : (⟨S1000000x1, .f32⟩ : BufTy).Contents (Elt F) → (⟨S1000000x100, .f32⟩ : BufTy).Contents (Elt F)),
    binary main_v9 main_v12 main_v13 (Host.divf : (⟨S1000000x100, .f32⟩ : BufTy).Contents (Elt F) → (⟨S1000000x100, .f32⟩ : BufTy).Contents (Elt F) → (⟨S1000000x100, .f32⟩ : BufTy).Contents (Elt F)),
    nullary main_cst_4 (constant S_ .f32 0xFF800000#32),
    binary main_v13 main_cst_4 main_v14 ((fun x v => Host.reduce FloatOps.maximumf x v reducesTo_S1000000x100_S1000000_d1 h_S_) : (⟨S1000000x100, .f32⟩ : BufTy).Contents (Elt F) → (⟨S_, .f32⟩ : BufTy).Contents (Elt F) → (⟨S1000000, .f32⟩ : BufTy).Contents (Elt F)),
    TRef.nullary (TRef.of (T := ⟨S1000000x100, .i32⟩) main_call1_v0) (iotaInDim S1000000x100 32 1),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S1000000x100, .f32⟩) main_v13) (TRef.of (T := ⟨S1000000x100, .i32⟩) main_call1_v0) (TRef.of (T := ⟨S_, .f32⟩) main_call1_cst) (TRef.of (T := ⟨S_, .i32⟩) main_call1_c) (TRef.of (T := ⟨S1000000, .f32⟩) main_call1_v1_0) (fun x y u v j => (Host.argReduce reducer_argmax_f32_i32 x y u v reducesTo_S1000000x100_S1000000_d1 h_S_ j).1),
    TRef.quaternary (TRef.of (T := ⟨S1000000x100, .f32⟩) main_v13) (TRef.of (T := ⟨S1000000x100, .i32⟩) main_call1_v0) (TRef.of (T := ⟨S_, .f32⟩) main_call1_cst) (TRef.of (T := ⟨S_, .i32⟩) main_call1_c) (TRef.of (T := ⟨S1000000, .i32⟩) main_v15) (fun x y u v j => (Host.argReduce reducer_argmax_f32_i32 x y u v reducesTo_S1000000x100_S1000000_d1 h_S_ j).2),
    binary main_v15 main_arg1 main_v16 (cmpi .eq : (⟨S1000000, .i32⟩ : BufTy).Contents (Elt F) → (⟨S1000000, .i32⟩ : BufTy).Contents (Elt F) → (⟨S1000000, .i1⟩ : BufTy).Contents (Elt F)),
    unary main_v16 main_v17 (uitofp .f32 : (⟨S1000000, .i1⟩ : BufTy).Contents (Elt F) → (⟨S1000000, .f32⟩ : BufTy).Contents (Elt F)),
    unary main_v14 main_v18 (broadcastInDim S1x1000000 ![1] bcast_S1000000_S1x1000000_1 : (⟨S1000000, .f32⟩ : BufTy).Contents (Elt F) → (⟨S1x1000000, .f32⟩ : BufTy).Contents (Elt F)),
    unary main_v1 main_v19 (broadcastInDim S15x1 ![0] bcast_S15_S15x1_0 : (⟨S15, .f32⟩ : BufTy).Contents (Elt F) → (⟨S15x1, .f32⟩ : BufTy).Contents (Elt F)),
    unary main_v18 main_v20 (broadcastInDim S15x1000000 ![0, 1] bcast_S1x1000000_S15x1000000_0_1 : (⟨S1x1000000, .f32⟩ : BufTy).Contents (Elt F) → (⟨S15x1000000, .f32⟩ : BufTy).Contents (Elt F)),
    unary main_v19 main_v21 (broadcastInDim S15x1000000 ![0, 1] bcast_S15x1_S15x1000000_0_1 : (⟨S15x1, .f32⟩ : BufTy).Contents (Elt F) → (⟨S15x1000000, .f32⟩ : BufTy).Contents (Elt F)),
    binary main_v20 main_v21 main_v22 (cmpf .ogt : (⟨S15x1000000, .f32⟩ : BufTy).Contents (Elt F) → (⟨S15x1000000, .f32⟩ : BufTy).Contents (Elt F) → (⟨S15x1000000, .i1⟩ : BufTy).Contents (Elt F)),
    unary main_v14 main_v23 (broadcastInDim S1x1000000 ![1] bcast_S1000000_S1x1000000_1 : (⟨S1000000, .f32⟩ : BufTy).Contents (Elt F) → (⟨S1x1000000, .f32⟩ : BufTy).Contents (Elt F)),
    unary main_v2 main_v24 (broadcastInDim S15x1 ![0] bcast_S15_S15x1_0 : (⟨S15, .f32⟩ : BufTy).Contents (Elt F) → (⟨S15x1, .f32⟩ : BufTy).Contents (Elt F)),
    unary main_v23 main_v25 (broadcastInDim S15x1000000 ![0, 1] bcast_S1x1000000_S15x1000000_0_1 : (⟨S1x1000000, .f32⟩ : BufTy).Contents (Elt F) → (⟨S15x1000000, .f32⟩ : BufTy).Contents (Elt F)),
    unary main_v24 main_v26 (broadcastInDim S15x1000000 ![0, 1] bcast_S15x1_S15x1000000_0_1 : (⟨S15x1, .f32⟩ : BufTy).Contents (Elt F) → (⟨S15x1000000, .f32⟩ : BufTy).Contents (Elt F)),
    binary main_v25 main_v26 main_v27 (cmpf .ole : (⟨S15x1000000, .f32⟩ : BufTy).Contents (Elt F) → (⟨S15x1000000, .f32⟩ : BufTy).Contents (Elt F) → (⟨S15x1000000, .i1⟩ : BufTy).Contents (Elt F)),
    binary main_v22 main_v27 main_v28 (andi : (⟨S15x1000000, .i1⟩ : BufTy).Contents (Elt F) → (⟨S15x1000000, .i1⟩ : BufTy).Contents (Elt F) → (⟨S15x1000000, .i1⟩ : BufTy).Contents (Elt F)),
    unary main_v28 main_v29 (uitofp .f32 : (⟨S15x1000000, .i1⟩ : BufTy).Contents (Elt F) → (⟨S15x1000000, .f32⟩ : BufTy).Contents (Elt F)),
    nullary main_cst_5 (constant S_ .f32 0x00000000#32),
    binary main_v29 main_cst_5 main_v30 ((fun x v => Host.reduceAdd x v reducesTo_S15x1000000_S15_d1 h_S_) : (⟨S15x1000000, .f32⟩ : BufTy).Contents (Elt F) → (⟨S_, .f32⟩ : BufTy).Contents (Elt F) → (⟨S15, .f32⟩ : BufTy).Contents (Elt F)),
    nullary main_cst_6 (constant S_ .f32 0x3F800000#32),
    unary main_cst_6 main_v31 (broadcastInDim S15 ![] bcast_S_S15 : (⟨S_, .f32⟩ : BufTy).Contents (Elt F) → (⟨S15, .f32⟩ : BufTy).Contents (Elt F)),
    binary main_v30 main_v31 main_v32 (maximumf : (⟨S15, .f32⟩ : BufTy).Contents (Elt F) → (⟨S15, .f32⟩ : BufTy).Contents (Elt F) → (⟨S15, .f32⟩ : BufTy).Contents (Elt F)),
    unary main_v17 main_v33 (broadcastInDim S1x1000000 ![1] bcast_S1000000_S1x1000000_1 : (⟨S1000000, .f32⟩ : BufTy).Contents (Elt F) → (⟨S1x1000000, .f32⟩ : BufTy).Contents (Elt F)),
    unary main_v33 main_v34 (broadcastInDim S15x1000000 ![0, 1] bcast_S1x1000000_S15x1000000_0_1 : (⟨S1x1000000, .f32⟩ : BufTy).Contents (Elt F) → (⟨S15x1000000, .f32⟩ : BufTy).Contents (Elt F)),
    binary main_v29 main_v34 main_v35 (mulf : (⟨S15x1000000, .f32⟩ : BufTy).Contents (Elt F) → (⟨S15x1000000, .f32⟩ : BufTy).Contents (Elt F) → (⟨S15x1000000, .f32⟩ : BufTy).Contents (Elt F)),
    nullary main_cst_7 (constant S_ .f32 0x00000000#32),
    binary main_v35 main_cst_7 main_v36 ((fun x v => Host.reduceAdd x v reducesTo_S15x1000000_S15_d1 h_S_) : (⟨S15x1000000, .f32⟩ : BufTy).Contents (Elt F) → (⟨S_, .f32⟩ : BufTy).Contents (Elt F) → (⟨S15, .f32⟩ : BufTy).Contents (Elt F)),
    unary main_v14 main_v37 (broadcastInDim S1x1000000 ![1] bcast_S1000000_S1x1000000_1 : (⟨S1000000, .f32⟩ : BufTy).Contents (Elt F) → (⟨S1x1000000, .f32⟩ : BufTy).Contents (Elt F)),
    unary main_v37 main_v38 (broadcastInDim S15x1000000 ![0, 1] bcast_S1x1000000_S15x1000000_0_1 : (⟨S1x1000000, .f32⟩ : BufTy).Contents (Elt F) → (⟨S15x1000000, .f32⟩ : BufTy).Contents (Elt F)),
    binary main_v29 main_v38 main_v39 (mulf : (⟨S15x1000000, .f32⟩ : BufTy).Contents (Elt F) → (⟨S15x1000000, .f32⟩ : BufTy).Contents (Elt F) → (⟨S15x1000000, .f32⟩ : BufTy).Contents (Elt F)),
    nullary main_cst_8 (constant S_ .f32 0x00000000#32),
    binary main_v39 main_cst_8 main_v40 ((fun x v => Host.reduceAdd x v reducesTo_S15x1000000_S15_d1 h_S_) : (⟨S15x1000000, .f32⟩ : BufTy).Contents (Elt F) → (⟨S_, .f32⟩ : BufTy).Contents (Elt F) → (⟨S15, .f32⟩ : BufTy).Contents (Elt F)),
    nullary main_cst_9 (constant S_ .f32 0x00000000#32),
    unary main_cst_9 main_v41 (broadcastInDim S15 ![] bcast_S_S15 : (⟨S_, .f32⟩ : BufTy).Contents (Elt F) → (⟨S15, .f32⟩ : BufTy).Contents (Elt F)),
    binary main_v30 main_v41 main_v42 (cmpf .ogt : (⟨S15, .f32⟩ : BufTy).Contents (Elt F) → (⟨S15, .f32⟩ : BufTy).Contents (Elt F) → (⟨S15, .i1⟩ : BufTy).Contents (Elt F)),
    binary main_v36 main_v32 main_v43 (Host.divf : (⟨S15, .f32⟩ : BufTy).Contents (Elt F) → (⟨S15, .f32⟩ : BufTy).Contents (Elt F) → (⟨S15, .f32⟩ : BufTy).Contents (Elt F)),
    nullary main_cst_10 (constant S_ .f32 0x00000000#32),
    TRef.unary (TRef.of (T := ⟨S_, .f32⟩) main_cst_10) (TRef.of (T := ⟨S_, .f32⟩) main_call2_v0) id,
    TRef.unary (TRef.of (T := ⟨S_, .f32⟩) main_call2_v0) (TRef.of (T := ⟨S15, .f32⟩) main_call2_v1) (broadcastInDim S15 ![] bcast_S_S15),
    TRef.ternary (TRef.of (T := ⟨S15, .i1⟩) main_v42) (TRef.of (T := ⟨S15, .f32⟩) main_v43) (TRef.of (T := ⟨S15, .f32⟩) main_call2_v1) (TRef.of (T := ⟨S15, .f32⟩) main_v44) select,
    nullary main_cst_11 (constant S_ .f32 0x00000000#32),
    unary main_cst_11 main_v45 (broadcastInDim S15 ![] bcast_S_S15 : (⟨S_, .f32⟩ : BufTy).Contents (Elt F) → (⟨S15, .f32⟩ : BufTy).Contents (Elt F)),
    binary main_v30 main_v45 main_v46 (cmpf .ogt : (⟨S15, .f32⟩ : BufTy).Contents (Elt F) → (⟨S15, .f32⟩ : BufTy).Contents (Elt F) → (⟨S15, .i1⟩ : BufTy).Contents (Elt F)),
    binary main_v40 main_v32 main_v47 (Host.divf : (⟨S15, .f32⟩ : BufTy).Contents (Elt F) → (⟨S15, .f32⟩ : BufTy).Contents (Elt F) → (⟨S15, .f32⟩ : BufTy).Contents (Elt F)),
    nullary main_cst_12 (constant S_ .f32 0x00000000#32),
    TRef.unary (TRef.of (T := ⟨S_, .f32⟩) main_cst_12) (TRef.of (T := ⟨S_, .f32⟩) main_call3_v0) id,
    TRef.unary (TRef.of (T := ⟨S_, .f32⟩) main_call3_v0) (TRef.of (T := ⟨S15, .f32⟩) main_call3_v1) (broadcastInDim S15 ![] bcast_S_S15),
    TRef.ternary (TRef.of (T := ⟨S15, .i1⟩) main_v46) (TRef.of (T := ⟨S15, .f32⟩) main_v47) (TRef.of (T := ⟨S15, .f32⟩) main_call3_v1) (TRef.of (T := ⟨S15, .f32⟩) main_v48) select ]

set_option maxRecDepth 8192 in
set_option maxHeartbeats 4000000 in
/-- @main is the list run in order. -/
theorem main_eq (c : Dev nD) : main (F := F) c = seq ops := rfl

/-- No buffer is a staging buffer. -/
theorem scopedRefs_eq : (Finset.univ.filter fun b : Ref sig .tc => b.isScoped) = ∅ := by decide

/-- No semaphore is scoped. -/
theorem scopedSems_eq : (Finset.univ.filter fun sm : SemLoc sig => sm.isScoped .tc) = ∅ := by decide

set_option maxRecDepth 8192 in
/-- Every operation's buffers are the TensorCore's. -/
theorem ops_sub : (ops : List (HloOp τ sig (Elt F))).Forall fun op => op.bufs ⊆ tcRefs τ sig :=
  ⟨nullary_bufs_sub .., nullary_bufs_sub .., unary_bufs_sub .., unary_bufs_sub .., binary_bufs_sub .., nullary_bufs_sub .., binary_bufs_sub .., nullary_bufs_sub .., nullary_bufs_sub .., unary_bufs_sub ..,
    binary_bufs_sub .., reshape_bufs_sub .., nullary_bufs_sub .., unary_bufs_sub .., binary_bufs_sub .., unary_bufs_sub .., binary_bufs_sub .., reshape_bufs_sub .., unary_bufs_sub .., binary_bufs_sub ..,
    binary_bufs_sub .., unary_bufs_sub .., binary_bufs_sub .., unary_bufs_sub .., unary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub .., unary_bufs_sub .., unary_bufs_sub .., binary_bufs_sub .., nullary_bufs_sub ..,
    binary_bufs_sub .., nullary_bufs_sub .., nullary_bufs_sub .., nullary_bufs_sub .., quaternary_bufs_sub .., quaternary_bufs_sub .., binary_bufs_sub .., unary_bufs_sub .., unary_bufs_sub .., unary_bufs_sub ..,
    unary_bufs_sub .., unary_bufs_sub .., binary_bufs_sub .., unary_bufs_sub .., unary_bufs_sub .., unary_bufs_sub .., unary_bufs_sub .., binary_bufs_sub .., binary_bufs_sub .., unary_bufs_sub ..,
    nullary_bufs_sub .., binary_bufs_sub .., nullary_bufs_sub .., unary_bufs_sub .., binary_bufs_sub .., unary_bufs_sub .., unary_bufs_sub .., binary_bufs_sub .., nullary_bufs_sub .., binary_bufs_sub ..,
    unary_bufs_sub .., unary_bufs_sub .., binary_bufs_sub .., nullary_bufs_sub .., binary_bufs_sub .., nullary_bufs_sub .., unary_bufs_sub .., binary_bufs_sub .., binary_bufs_sub .., nullary_bufs_sub ..,
    unary_bufs_sub .., unary_bufs_sub .., ternary_bufs_sub .., nullary_bufs_sub .., unary_bufs_sub .., binary_bufs_sub .., binary_bufs_sub .., nullary_bufs_sub .., unary_bufs_sub .., unary_bufs_sub ..,
    ternary_bufs_sub ..⟩

variable (m : (ℓ : Loc nD τ sig) → Buf (Elt F) ℓ) (d : Dev nD)

/-- The confidences, as the run's memory gives the logits. -/
abbrev confs : FVec F S1000000 .f32 := rowMax (soft (m ((d.tc : Thread nD τ).loc main_arg0)))

set_option maxRecDepth 8192 in
set_option maxHeartbeats 36400000 in
/-- The reference terminates with its results at the two means, its arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v48) = mean (confs m c) (confs m c)
      ∧ r.2.mem ((c.tc : Thread nD τ).loc main_v44) = mean (confs m c) (hits (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
      refine ⟨(h c main_v48).trans ?_, (h c main_v44).trans ?_, (h c main_arg0).trans ?_, (h c main_arg1).trans ?_⟩ <;>
        (simp only [ops, TRef.binary, TRef.nullary, TRef.quaternary, TRef.reshape, TRef.ternary, TRef.unary, TRef.toBuf, TRef.ofBuf, cast_eq]
         after_results_simp <;> rfl))
    (run_seq scopedRefs_eq scopedSems_eq defs main (fun _ => ops) main_eq (fun _ => ops_sub) m ρ)

end Cert.Proof.Ref

end
-- ==== Proof.Setup.lean ====
/-
  The program as the launch theorem sees it: the SparseCore configuration, the ghost state (handshake rounds,
  pipeline rounds, transfer counters), the arrays as locations, and the VALUES the histogram call computes,
  written as functions of the two arrays it reads.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import Idealize.ShloMosaic.Lib.Writes
public import Idealize.ShloMosaic.Lib.Pipeline.Kit
public import Idealize.ShloMosaic.Lib.Pipeline.Regions
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Hist

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The program -/

abbrev ΛP : Labels := Pipeline.Sig Λ₀ (Fin 2) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are distinct where they must be, none of them scoped, and no tile table is shared. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

/-- The handshakes' rounds. -/
abbrev UH : Type := URounds (GSem nD τ sig) ℕ
/-- The TensorCore pipelines' rounds. -/
abbrev UR : Type := URounds (GSem nD τ sig) Unit
abbrev UU : Type := UH × (UR × Counters)

local notation "𝕄" => MT nD τ sig (HIx 1) (Elt F) ℕ UU ℕ

/-- The handshakes' rounds inside the ghost state. -/
abbrev EH : Emb UH (MT nD τ sig (HIx 1) (Elt F) ℕ UU ℕ) := embL
/-- The pipelines' rounds inside the ghost state. -/
def EP : Emb UR (MT nD τ sig (HIx 1) (Elt F) ℕ UU ℕ) :=
  (Emb.inl : Emb UR (UR × Counters)).trans (embR : Emb (UR × Counters) (MT nD τ sig (HIx 1) (Elt F) ℕ UU ℕ))
instance EP_landsIn : (EP : Emb UR 𝕄).LandsIn (upEmb : UEmb _ 𝕄) := by unfold EP; infer_instance

/-! ## The arrays of the histogram call -/

/-- The packed predictions and confidences, the labels, and the per-tile histograms, as locations of device `d`. -/
abbrev pkLoc (d : Dev nD) : Loc nD τ sig := (SparseCore.T d).loc main_v5
abbrev lbLoc (d : Dev nD) : Loc nD τ sig := (SparseCore.T d).loc main_v9
abbrev oLoc (d : Dev nD) : Loc nD τ sig := (SparseCore.T d).loc main_v10

/-- The task's memrefs: the two arrays it reads, the array it writes, and its scratch. -/
abbrev pkV : Memref sig .scVector .hbm S1000448 .f32 := Memref.whole main_v5_scv
abbrev lbV : Memref sig .scVector .hbm S1000448 .f32 := Memref.whole main_v9_scv
abbrev oV : Memref sig .scVector .hbm S32x48 .f32 := Memref.whole main_v10_scv
abbrev sP : Memref sig .scVector .vmem S31264 .f32 := Memref.whole cc1_scratch0
abbrev sL : Memref sig .scVector .vmem S31264 .f32 := Memref.whole cc1_scratch1
abbrev sCnt : Memref sig .scVector .vmem S256 .f32 := Memref.whole cc1_scratch2
abbrev sCnf : Memref sig .scVector .vmem S256 .f32 := Memref.whole cc1_scratch3
abbrev sAcc : Memref sig .scVector .vmem S256 .f32 := Memref.whole cc1_scratch4
abbrev sOut : Memref sig .scVector .vmem S48 .f32 := Memref.whole cc1_scratch5

theorem chunk_dvd : 32 ∣ S1000448.size 0 := ⟨31264, rfl⟩
theorem row_dvd : 32 ∣ S32x48.size 0 := ⟨1, rfl⟩
/-- Tile `w`'s stretch of the two input arrays, and its row of the result. -/
abbrev chunk (w : Fin 32) : Rect S1000448 := Rect.part (s := S1000448) (a₀ := 0) chunk_dvd w
abbrev row (w : Fin 32) : Rect S32x48 := Rect.part (s := S32x48) (a₀ := 0) row_dvd w
abbrev chunkSet (w : Fin 32) : Finset S1000448.Idx := (chunk w).set
abbrev rowSet (w : Fin 32) : Finset S32x48.Idx := (row w).set

/-- The tile that core `c`, subcore `i` is: `c * 16 + i`. -/
abbrev tileOf (c : Fin 2) (i : Fin 16) : Fin 32 := ⟨16 * c.val + i.val, by omega⟩

/-! ## The values -/

/-- The sixteen elements a trip of the loop reads. -/
abbrev grpRect (t : Fin k1_t1_loop.trips) : Rect S31264 := Rect.unit (s := S31264) (k1_off2 t) S16.size (k1_off2_inb t)
abbrev grp (f : Vec F S31264 .f32) (t : Fin k1_t1_loop.trips) : Vec F S16 .f32 :=
  (sP : Memref sig .scVector .vmem S31264 .f32).view.readAt (Elt F) (grpRect t).toLoadRect f

/-- The histogram words a group of sixteen packed values adds to: the bin plus sixteen times the lane. -/
def idxOf (v : Vec F S16 .f32) : IVec S16 32 :=
  k1_pay17 k1_pay13 k1_pay15 (k1_pay5 v) (k1_pay10 k1_pay15 (k1_pay5 v) (k1_pay7 k1_pay15 k1_pay16 v) (k1_pay8 v) k1_pay9) (k1_pay11 (F := F))

/-- A word masked to its low four bits, plus sixteen times a lane number, is below 256. -/
theorem word_lt (a : BitVec 32) (l : ℕ) (hl : l < 16) :
    ((a &&& 15#32) + BitVec.ofNat 32 l * 16#32).toNat = (a &&& 15#32).toNat + 16 * l ∧ (a &&& 15#32).toNat < 16 := by
  have h1 : (a &&& 15#32).toNat < 16 := by
    rw [BitVec.toNat_and]; exact Nat.lt_of_le_of_lt Nat.and_le_right (by decide)
  refine ⟨?_, h1⟩
  rw [BitVec.toNat_add, BitVec.toNat_mul, BitVec.toNat_ofNat]
  simp only [BitVec.toNat_ofNat]
  omega

/-- The bin of each packed value: one less than the number of thresholds below its fraction. -/
def binOf (v : Vec F S16 .f32) : IVec S16 32 :=
  addi (k1_pay10 k1_pay15 (k1_pay5 v) (k1_pay7 k1_pay15 k1_pay16 v) (k1_pay8 v) k1_pay9)
    (select (cmpf .ogt (k1_pay5 v) (k1_pay11 (F := F))) k1_pay15 (broadcast S16 0#32))

/-- Every word of `idxOf` is its bin's low four bits plus sixteen times its lane. -/
theorem idxOf_apply (v : Vec F S16 .f32) (x : S16.Idx) :
    idxOf v x = (binOf v x &&& 15#32) + BitVec.ofNat 32 (x 0).val * 16#32 := by
  have e : iota .scVector S16 32 [0] iota_S16_d0_w32_scVector x = BitVec.ofNat 32 (x 0).val := by
    simp [iota]
  rw [← e]
  rfl

/-- The indices of a group are inside the histograms, whatever the packed values are. -/
theorem chk (v : Vec F S16 .f32) : k1_chk1 (idxOf v) := by
  have h : ∀ a x, ((![idxOf v] : Fin 1 → IVec S16 32) a x).toNat < S256.size a := by
    intro a x
    obtain rfl : a = 0 := Subsingleton.elim _ _
    have hl : (x 0).val < 16 := (x 0).isLt
    show (idxOf v x).toNat < 256
    rw [idxOf_apply, (word_lt _ _ hl).1]
    have := (word_lt (binOf v x) _ hl).2
    omega
  exact ⟨h, h, h⟩

/-- A histogram after a group's sixteen values `u` are added at the group's words. -/
def addAt (h : Vec F S256 .f32) (v u : Vec F S16 .f32) : Vec F S256 .f32 :=
  storeIdx h ![idxOf v] u (fun _ => 1#1) true (chk v).1

/-- The three histograms: counts, confidences, hits. -/
abbrev Hists (F : FTy → Type) : Type := Vec F S256 .f32 × Vec F S256 .f32 × Vec F S256 .f32

/-- One trip of the loop: the group's ones, confidences and hits added. -/
def step (P Q : Vec F S31264 .f32) (t : Fin k1_t1_loop.trips) (h : Hists F) : Hists F :=
  (addAt h.1 (grp P t) k1_pay14, addAt h.2.1 (grp P t) (k1_pay5 (grp P t)),
    addAt h.2.2 (grp P t) (k1_pay6 k1_pay12 k1_pay14 (grp P t) (grp Q t)))

/-- A histogram of zeros. -/
def zeros : Vec F S256 .f32 := fun _ => Scalar.ofBits .f32 0x00000000#32

/-- The histograms before trip `k`, from zeros. -/
def hists (P Q : Vec F S31264 .f32) : ℕ → Hists F
  | 0 => (zeros, zeros, zeros)
  | k + 1 => if h : k < k1_t1_loop.trips then step P Q ⟨k, h⟩ (hists P Q k) else hists P Q k

theorem hists_succ (P Q : Vec F S31264 .f32) (k : Fin k1_t1_loop.trips) :
    hists P Q (k.val + 1) = step P Q k (hists P Q k.val) := by
  rw [hists, dif_pos k.isLt]

/-- An index of a one-axis shape, from its position. -/
abbrev pos {n : ℕ} (k : Fin n) : (⟨1, ![n]⟩ : Shape).Idx := Shape.ofLane (d := ![n]) k
/-- The position of an index of a one-axis shape. -/
abbrev ofPos {n : ℕ} (x : (⟨1, ![n]⟩ : Shape).Idx) : Fin n := x 0

/-- Lane `r`'s sixteen words of a histogram. -/
def lane (h : Vec F S256 .f32) (r : Fin 16) : Vec F S16 .f32 := fun x =>
  h (pos (n := 256) ⟨16 * r.val + (ofPos x).val, by have := (ofPos x).isLt; have := r.isLt; omega⟩)

/-- The sixteen lanes of a histogram added up, lowest first. -/
def red (h : Vec F S256 .f32) : Vec F S16 .f32 :=
  addf (addf (addf (addf (addf (addf (addf (addf (addf (addf (addf (addf (addf (addf (addf (lane h 0) (lane h 1)) (lane h 2)) (lane h 3))
    (lane h 4)) (lane h 5)) (lane h 6)) (lane h 7)) (lane h 8)) (lane h 9)) (lane h 10)) (lane h 11)) (lane h 12)) (lane h 13)) (lane h 14)) (lane h 15)

/-- What a tile writes out: the counts, the confidence sums, the hit sums, sixteen bins each. -/
def outOf (h : Hists F) : Vec F S48 .f32 := fun j =>
  if j0 : (ofPos j).val < 16 then red h.1 (pos ⟨(ofPos j).val, j0⟩)
  else if j1 : (ofPos j).val < 32 then red h.2.1 (pos ⟨(ofPos j).val - 16, by omega⟩)
  else red h.2.2 (pos ⟨(ofPos j).val - 32, by have := (ofPos j).isLt; omega⟩)

/-- Tile `w`'s stretch of an array of 1000448 elements. -/
def chunkOf (f : Vec F S1000448 .f32) (w : Fin 32) : Vec F S31264 .f32 := fun j =>
  f (pos (n := 1000448) ⟨31264 * w.val + (ofPos j).val, by have := (ofPos j).isLt; have := w.isLt; omega⟩)

/-- The result of the histogram call: row `w` is what tile `w` writes out. -/
def rowsOf (P Q : Vec F S1000448 .f32) : Vec F S32x48 .f32 := fun x =>
  outOf (hists (chunkOf P (x 0)) (chunkOf Q (x 0)) k1_t1_loop.trips) (pos (n := 48) (x 1))

end Cert.Proof.Hist

end
-- ==== Proof.Tile.lean ====
/-
  The histogram task on one vector subcore, at a symbolic core and subcore: its two fetches, the zeroed histograms,
  the loop over groups of sixteen, the sums over lanes and the write-out, with the VALUES carried.
-/
module

public import proofs.«01_k».proof.Proof.Setup

@[expose] public section

noncomputable section

namespace Cert.Proof.Hist

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (d : Dev nD) (L : grid1.Coords)

/-- The task's core, subcore, thread and tile number. -/
abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)
abbrev wL (L : grid1.Coords) : Fin 32 := tileOf (L 0) (L 1)

/-- The task's stretches of the inputs and its row of the result, as the body slices them. -/
abbrev pkK (L : grid1.Coords) : Memref sig .scVector .hbm S31264 .f32 :=
  (pkV : Memref sig .scVector .hbm S1000448 .f32).slice (Rect.unit (s := S1000448) (k1_off1 L) S31264.size (k1_off1_inb L)) (fun _ => rfl)
abbrev lbK (L : grid1.Coords) : Memref sig .scVector .hbm S31264 .f32 :=
  (lbV : Memref sig .scVector .hbm S1000448 .f32).slice (Rect.unit (s := S1000448) (k1_off1 L) S31264.size (k1_off1_inb L)) (fun _ => rfl)
abbrev oK (L : grid1.Coords) : Memref sig .scVector .hbm S48 .f32 :=
  ((oV : Memref sig .scVector .hbm S32x48 .f32).slice (Rect.unit (s := S32x48) (k1_off3 L) S1x48.size (k1_off3_inb L)) (fun _ => rfl)).squeeze S48 squeezes_S1x48_S48

/-- The loop's invariant before trip `k`: the fetched stretches `P`, `Q`, and the histograms of the groups before `k`. -/
def inv (O : CellTallies nD τ sig (HIx 1)) (P Q : Vec F S31264 .f32) (k : Nat) (_ : Unit) : sProp 𝕄 :=
  iprop(((sP).view.loc (thr d L) ↦{fullShare} P)
    ∗ ((sL).view.loc (thr d L) ↦{fullShare} Q)
    ∗ ((sCnt).view.loc (thr d L) ↦{fullShare} (hists P Q k).1)
    ∗ ((sCnf).view.loc (thr d L) ↦{fullShare} (hists P Q k).2.1)
    ∗ ((sAcc).view.loc (thr d L) ↦{fullShare} (hists P Q k).2.2))

/-! ### What the body's reads and writes leave, as the values of Setup -/

/-- A scratch written by pieces that all agree with one function, and cover it, holds that function. -/
theorem writes_whole_eq (b : Ref sig .scVector) (f G : b.ty.Contents (Elt F))
    (l : List (View.Piece (Elt F) b.ty.shape b.ty.elt))
    (hG : ∀ p ∈ l, ∀ x : p.1.shape.Idx, p.2 x = G (p.1.emb x)) (hc : ∀ y, ∃ p ∈ l, y ∈ p.1.set) :
    (View.whole b).writes (Elt F) f l = G := by
  funext y
  have h := View.read_writes_apply_of_pieces (v := View.whole b) (f := f) G l hG y (hc y)
  rwa [View.read_whole] at h

/-- The stretch the body fetches is the tile's chunk. -/
theorem read_pkK (f : Vec F S1000448 .f32) : (pkK L).view.read (Elt F) f = chunkOf f (wL L) := by
  funext j
  show f _ = f _
  refine congrArg f (funext fun (a : Fin 1) => Fin.ext ?_)
  obtain rfl : a = 0 := Subsingleton.elim _ _
  show (k1_off1 L) 0 + 1 * (j 0).val = 31264 * (16 * (L 0).val + (L 1).val) + (j 0).val
  rw [k1_off1_eq]
  show 500224 * (L 0).val + 31264 * (L 1).val + 1 * (j 0).val = _
  omega

theorem read_lbK (f : Vec F S1000448 .f32) : (lbK L).view.read (Elt F) f = chunkOf f (wL L) := by
  funext j
  show f _ = f _
  refine congrArg f (funext fun (a : Fin 1) => Fin.ext ?_)
  obtain rfl : a = 0 := Subsingleton.elim _ _
  show (k1_off1 L) 0 + 1 * (j 0).val = 31264 * (16 * (L 0).val + (L 1).val) + (j 0).val
  rw [k1_off1_eq]
  show 500224 * (L 0).val + 31264 * (L 1).val + 1 * (j 0).val = _
  omega

/-- A load of sixteen words of a histogram at sixteen times a lane is the lane. -/
theorem load_lane (h : Vec F S256 .f32) (r : Fin 16) (o : ℕ) (ho : o = 16 * r.val) (inb : ∀ a, (![o] : Fin 1 → ℕ) a + S16.size a ≤ S256.size a) :
    (fun x => h ((Rect.unit (s := S256) ![o] S16.size inb).emb x) : Vec F S16 .f32) = lane h r := by
  funext x
  refine congrArg h (funext fun a => Fin.ext ?_)
  obtain rfl : a = 0 := Subsingleton.elim _ _
  show o + 1 * (x 0).val = 16 * r.val + (x 0).val
  omega

/-- Sixteen words of a histogram from word `o`, as the body loads them. -/
abbrev ld (h : Vec F S256 .f32) (o : ℕ) (inb : ∀ a, (![o] : Fin 1 → ℕ) a + S16.size a ≤ S256.size a) : Vec F S16 .f32 :=
  fun x => h ((Rect.unit (s := S256) ![o] S16.size inb).emb x)

/-- The body's sum of its sixteen loads is the sum over lanes. -/
theorem red_loads (h : Vec F S256 .f32) :
    addf (addf (addf (addf (addf (addf (addf (addf (addf (addf (addf (addf (addf (addf (addf (ld h 0 inb_S256_S16_0) (ld h 16 inb_S256_S16_16)) (ld h 32 inb_S256_S16_32)) (ld h 48 inb_S256_S16_48)) (ld h 64 inb_S256_S16_64)) (ld h 80 inb_S256_S16_80)) (ld h 96 inb_S256_S16_96)) (ld h 112 inb_S256_S16_112)) (ld h 128 inb_S256_S16_128)) (ld h 144 inb_S256_S16_144)) (ld h 160 inb_S256_S16_160)) (ld h 176 inb_S256_S16_176)) (ld h 192 inb_S256_S16_192)) (ld h 208 inb_S256_S16_208)) (ld h 224 inb_S256_S16_224)) (ld h 240 inb_S256_S16_240) = red h := by
  rw [show ld h 0 _ = _ from load_lane h 0 0 rfl _, show ld h 16 _ = _ from load_lane h 1 16 rfl _, show ld h 32 _ = _ from load_lane h 2 32 rfl _, show ld h 48 _ = _ from load_lane h 3 48 rfl _, show ld h 64 _ = _ from load_lane h 4 64 rfl _, show ld h 80 _ = _ from load_lane h 5 80 rfl _, show ld h 96 _ = _ from load_lane h 6 96 rfl _, show ld h 112 _ = _ from load_lane h 7 112 rfl _, show ld h 128 _ = _ from load_lane h 8 128 rfl _, show ld h 144 _ = _ from load_lane h 9 144 rfl _, show ld h 160 _ = _ from load_lane h 10 160 rfl _, show ld h 176 _ = _ from load_lane h 11 176 rfl _, show ld h 192 _ = _ from load_lane h 12 192 rfl _, show ld h 208 _ = _ from load_lane h 13 208 rfl _, show ld h 224 _ = _ from load_lane h 14 224 rfl _, show ld h 240 _ = _ from load_lane h 15 240 rfl _]
  rfl

/-- The three stretches of what a tile writes out. -/
theorem outOf_cnt (h : Hists F) (inb : ∀ a, (![0] : Fin 1 → ℕ) a + S16.size a ≤ S48.size a) (x : S16.Idx) :
    red h.1 x = outOf h ((Rect.unit (s := S48) ![0] S16.size inb).emb x) := by
  have hx : (x 0).val < 16 := (x 0).isLt
  have e : (ofPos (n := 48) ((Rect.unit (s := S48) ![0] S16.size inb).emb x)).val = (x 0).val := by
    show 0 + 1 * (x 0).val = _; omega
  unfold outOf
  rw [dif_pos (by rw [e]; exact hx)]
  refine congrArg _ (funext fun a => Fin.ext ?_)
  obtain rfl : a = 0 := Subsingleton.elim _ _
  exact e.symm

theorem outOf_cnf (h : Hists F) (inb : ∀ a, (![16] : Fin 1 → ℕ) a + S16.size a ≤ S48.size a) (x : S16.Idx) :
    red h.2.1 x = outOf h ((Rect.unit (s := S48) ![16] S16.size inb).emb x) := by
  have hx : (x 0).val < 16 := (x 0).isLt
  have e : (ofPos (n := 48) ((Rect.unit (s := S48) ![16] S16.size inb).emb x)).val = 16 + (x 0).val := by
    show 16 + 1 * (x 0).val = _; omega
  unfold outOf
  rw [dif_neg (by rw [e]; omega), dif_pos (by rw [e]; omega)]
  refine congrArg _ (funext fun a => Fin.ext ?_)
  obtain rfl : a = 0 := Subsingleton.elim _ _
  show (x 0).val = (ofPos (n := 48) ((Rect.unit (s := S48) ![16] S16.size inb).emb x)).val - 16
  rw [e]; omega

theorem outOf_acc (h : Hists F) (inb : ∀ a, (![32] : Fin 1 → ℕ) a + S16.size a ≤ S48.size a) (x : S16.Idx) :
    red h.2.2 x = outOf h ((Rect.unit (s := S48) ![32] S16.size inb).emb x) := by
  have hx : (x 0).val < 16 := (x 0).isLt
  have e : (ofPos (n := 48) ((Rect.unit (s := S48) ![32] S16.size inb).emb x)).val = 32 + (x 0).val := by
    show 32 + 1 * (x 0).val = _; omega
  unfold outOf
  rw [dif_neg (by rw [e]; omega), dif_neg (by rw [e]; omega)]
  refine congrArg _ (funext fun a => Fin.ext ?_)
  obtain rfl : a = 0 := Subsingleton.elim _ _
  show (x 0).val = (ofPos (n := 48) ((Rect.unit (s := S48) ![32] S16.size inb).emb x)).val - 32
  rw [e]; omega

/-- The row the body writes is the tile's row of the result. -/
theorem emb_oK (j : S48.Idx) (a : Fin 2) : ((oK L).view.emb j a).val = if a = 0 then (wL L).val else (j 0).val := by
  show (k1_off3 L) a + 1 * ((Shape.reshapeEquiv (squeezes_S1x48_S48).numel_eq j : S1x48.Idx) a).val = _
  rw [show (Shape.reshapeEquiv (squeezes_S1x48_S48).numel_eq j : S1x48.Idx) = _ from Shape.reshapeEquiv_cons_one _ j, k1_off3_eq]
  match a with
  | 0 => exact (Nat.add_zero _).trans rfl
  | 1 => exact (Nat.zero_add _).trans (Nat.one_mul _)

/-- The row's contents after the write-out: the tile's row of `rowsOf`. -/
theorem row_congr (fo : Vec F S32x48 .f32) (pk lb : Vec F S1000448 .f32) (w : Vec F S48 .f32)
    (hw : w = outOf (hists (chunkOf pk (wL L)) (chunkOf lb (wL L)) k1_t1_loop.trips)) :
    ((oK L).view.loc (thr d L) ↦[(oK L).view.set]{fullShare} (oK L).view.writes (Elt F) fo [⟨Rect.whole S48, w⟩] : sProp 𝕄)
      = ((oK L).view.loc (thr d L) ↦[(oK L).view.set]{fullShare} rowsOf pk lb) := by
  refine pointsTo_congr fun i hi => ?_
  obtain ⟨j, -, rfl⟩ := Finset.mem_map.mp hi
  have h := View.read_writes_cons_emb (v := (oK L).view) (f := fo) (Rect.whole S48) w [] j
  rw [Rect.emb_whole_apply, View.read_apply] at h
  refine Eq.trans ?_ (Eq.trans h ?_)
  · rfl
  · subst hw
    unfold rowsOf
    have e0 : (oK L).view.emb j 0 = wL L := Fin.ext (emb_oK L j 0)
    have e1 : (oK L).view.emb j 1 = j 0 := Fin.ext (emb_oK L j 1)
    rw [e0, e1]
    exact congrArg _ (funext fun (a : Fin 1) => by match a with | 0 => rfl)

/-- Scattering into a scratch of 256 words leaves the words with the group's values added. -/
theorem pts_cnt (f : Vec F S256 .f32) :
    ((sCnt.access (.whole S256)).loc (thr d L) ↦[(sCnt.access (.whole S256)).set]{fullShare} f : sProp 𝕄)
      = ((sCnt).view.loc (thr d L) ↦{fullShare} f) := by
  rw [show (sCnt.access (.whole S256)).set = Finset.univ from Memref.set_access_whole (cc1_scratch2 : Ref sig .scVector)]
theorem pts_cnf (f : Vec F S256 .f32) :
    ((sCnf.access (.whole S256)).loc (thr d L) ↦[(sCnf.access (.whole S256)).set]{fullShare} f : sProp 𝕄)
      = ((sCnf).view.loc (thr d L) ↦{fullShare} f) := by
  rw [show (sCnf.access (.whole S256)).set = Finset.univ from Memref.set_access_whole (cc1_scratch3 : Ref sig .scVector)]
theorem pts_acc (f : Vec F S256 .f32) :
    ((sAcc.access (.whole S256)).loc (thr d L) ↦[(sAcc.access (.whole S256)).set]{fullShare} f : sProp 𝕄)
      = ((sAcc).view.loc (thr d L) ↦{fullShare} f) := by
  rw [show (sAcc.access (.whole S256)).set = Finset.univ from Memref.set_access_whole (cc1_scratch4 : Ref sig .scVector)]

theorem pts_cnt_add (f : Vec F S256 .f32) (v : Vec F S16 .f32) (w : IVec S16 32) (hw : w = idxOf v) (u : Vec F S16 .f32)
    (h : ∀ a x, ((![w] : Fin 1 → IVec S16 32) a x).toNat < S256.size a) :
    ((sCnt.access (.whole S256)).loc (thr d L) ↦[(sCnt.access (.whole S256)).set]{fullShare}
        (sCnt.access (.whole S256)).write (Elt F) f (storeIdx ((sCnt.access (.whole S256)).read (Elt F) f) ![w] u (fun _ => 1#1) true h) Finset.univ : sProp 𝕄)
      = ((sCnt).view.loc (thr d L) ↦{fullShare} addAt f v u) := by
  subst hw
  refine (pts_cnt d L _).trans (congrArg (fun g => ((sCnt).view.loc (thr d L) ↦{fullShare} g : sProp 𝕄)) ?_)
  refine (Memref.write_access_whole_univ (Elt F) (cc1_scratch2 : Ref sig .scVector) f _).trans ?_
  exact congrArg (fun g => storeIdx g ![idxOf v] u (fun _ => 1#1) true h) (Memref.read_access_whole (Elt F) (cc1_scratch2 : Ref sig .scVector) f)
theorem pts_cnf_add (f : Vec F S256 .f32) (v : Vec F S16 .f32) (w : IVec S16 32) (hw : w = idxOf v) (u : Vec F S16 .f32)
    (h : ∀ a x, ((![w] : Fin 1 → IVec S16 32) a x).toNat < S256.size a) :
    ((sCnf.access (.whole S256)).loc (thr d L) ↦[(sCnf.access (.whole S256)).set]{fullShare}
        (sCnf.access (.whole S256)).write (Elt F) f (storeIdx ((sCnf.access (.whole S256)).read (Elt F) f) ![w] u (fun _ => 1#1) true h) Finset.univ : sProp 𝕄)
      = ((sCnf).view.loc (thr d L) ↦{fullShare} addAt f v u) := by
  subst hw
  refine (pts_cnf d L _).trans (congrArg (fun g => ((sCnf).view.loc (thr d L) ↦{fullShare} g : sProp 𝕄)) ?_)
  refine (Memref.write_access_whole_univ (Elt F) (cc1_scratch3 : Ref sig .scVector) f _).trans ?_
  exact congrArg (fun g => storeIdx g ![idxOf v] u (fun _ => 1#1) true h) (Memref.read_access_whole (Elt F) (cc1_scratch3 : Ref sig .scVector) f)
theorem pts_acc_add (f : Vec F S256 .f32) (v : Vec F S16 .f32) (w : IVec S16 32) (hw : w = idxOf v) (u : Vec F S16 .f32)
    (h : ∀ a x, ((![w] : Fin 1 → IVec S16 32) a x).toNat < S256.size a) :
    ((sAcc.access (.whole S256)).loc (thr d L) ↦[(sAcc.access (.whole S256)).set]{fullShare}
        (sAcc.access (.whole S256)).write (Elt F) f (storeIdx ((sAcc.access (.whole S256)).read (Elt F) f) ![w] u (fun _ => 1#1) true h) Finset.univ : sProp 𝕄)
      = ((sAcc).view.loc (thr d L) ↦{fullShare} addAt f v u) := by
  subst hw
  refine (pts_acc d L _).trans (congrArg (fun g => ((sAcc).view.loc (thr d L) ↦{fullShare} g : sProp 𝕄)) ?_)
  refine (Memref.write_access_whole_univ (Elt F) (cc1_scratch4 : Ref sig .scVector) f _).trans ?_
  exact congrArg (fun g => storeIdx g ![idxOf v] u (fun _ => 1#1) true h) (Memref.read_access_whole (Elt F) (cc1_scratch4 : Ref sig .scVector) f)

theorem hist_run (O : CellTallies nD τ sig (HIx 1)) (W : Waits sig (HIx 1)) (pk : Vec F S1000448 .f32) (lb : Vec F S1000448 .f32)
   (fo : Vec F S32x48 .f32)  (fP fL : Vec F S31264 .f32) (f2 f3 f4 : Vec F S256 .f32) (f5 : Vec F S48 .f32) :
    (iprop(Transfers.MayWaits (thr d L) (none : HIx 1) O
        ∗ ((pkK L).view.loc (thr d L) ↦[(pkK L).view.set]{fullShare} pk)
        ∗ ((lbK L).view.loc (thr d L) ↦[(lbK L).view.set]{fullShare} lb)
        ∗ ((oK L).view.loc (thr d L) ↦[(oK L).view.set]{fullShare} fo)
        ∗ ((sP).view.loc (thr d L) ↦{fullShare} fP)
        ∗ ((sL).view.loc (thr d L) ↦{fullShare} fL)
        ∗ ((sCnt).view.loc (thr d L) ↦{fullShare} f2)
        ∗ ((sCnf).view.loc (thr d L) ↦{fullShare} f3)
        ∗ ((sAcc).view.loc (thr d L) ↦{fullShare} f4)
        ∗ ((sOut).view.loc (thr d L) ↦{fullShare} f5)
        ∗ semVal (thr d L, SemLoc.dma cc1_scoped0.sem) 0 ∗ semVal (thr d L, SemLoc.dma cc1_scoped1.sem) 0 ∗ semVal (thr d L, SemLoc.dma cc1_scoped2.sem) 0
        ∗ owes (thr d L) O W) : sProp 𝕄)
      ⊢ wp frame (wpE (defs₀ (F := F)) 𝒱₀ (thr d L) none) Set.univ
          (cc1__hist_body L pkV (Memref.isWhole_whole _) lbV (Memref.isWhole_whole _) oV (Memref.isWhole_whole _)
            sP (Memref.isWhole_whole _) sL (Memref.isWhole_whole _) sCnt (Memref.isWhole_whole _) sCnf (Memref.isWhole_whole _)
            sAcc (Memref.isWhole_whole _) sOut (Memref.isWhole_whole _) cc1_scoped0 cc1_scoped1 cc1_scoped2)
          fun _ => iprop(((pkK L).view.loc (thr d L) ↦[(pkK L).view.set]{fullShare} pk)
            ∗ ((lbK L).view.loc (thr d L) ↦[(lbK L).view.set]{fullShare} lb)
            ∗ ((oK L).view.loc (thr d L) ↦[(oK L).view.set]{fullShare} rowsOf pk lb)
            ∗ (∃ f, (sP).view.loc (thr d L) ↦{fullShare} f)
            ∗ (∃ f, (sL).view.loc (thr d L) ↦{fullShare} f)
            ∗ (∃ f, (sCnt).view.loc (thr d L) ↦{fullShare} f)
            ∗ (∃ f, (sCnf).view.loc (thr d L) ↦{fullShare} f)
            ∗ (∃ f, (sAcc).view.loc (thr d L) ↦{fullShare} f)
            ∗ (∃ f, (sOut).view.loc (thr d L) ↦{fullShare} f)
            ∗ semVal (thr d L, SemLoc.dma cc1_scoped0.sem) 0 ∗ semVal (thr d L, SemLoc.dma cc1_scoped1.sem) 0 ∗ semVal (thr d L, SemLoc.dma cc1_scoped2.sem) 0
            ∗ ∃ W', owes (thr d L) O W') := by
  iintro ⟨#Hmw, Hpk, Hlb, Ho, HP, HL, Hcnt, Hcnf, Hacc, Hout, Hs0, Hs1, Hs2, HO⟩
  sl_unfold [cc1__hist_body]
  sl_exec
  sl_for (inv d L O (chunkOf pk (wL L)) (chunkOf lb (wL L))) $$ [HP HL Hcnt Hcnf Hacc]
  case region =>
    intro k _
    unfold inv
    iintro ⟨HP, HL, Hcnt, Hcnf, Hacc⟩
    sl_exec
    have hh : hist_run.sl.v247 L pk k = idxOf (grp (chunkOf pk (wL L)) k) := rfl
    rw [wp_assume_of _ _ _ _ (hh ▸ chk (grp (chunkOf pk (wL L)) k))]
    ihave Hc := (Entails.of_eq (pts_cnt d L _).symm) $$ Hcnt
    iapply (SparseCore.wp_vectorStoreIdx 𝒱₀ (thr d L) none Set.univ (base := sCnt)) $$ Hc; iintro Hc
    ihave Hcnt := (Entails.of_eq (pts_cnt_add d L _ _ _ hh _ _)) $$ Hc
    ihave Hc := (Entails.of_eq (pts_cnf d L _).symm) $$ Hcnf
    iapply (SparseCore.wp_vectorStoreIdx 𝒱₀ (thr d L) none Set.univ (base := sCnf)) $$ Hc; iintro Hc
    ihave Hcnf := (Entails.of_eq (pts_cnf_add d L _ _ _ hh _ _)) $$ Hc
    ihave Hc := (Entails.of_eq (pts_acc d L _).symm) $$ Hacc
    iapply (SparseCore.wp_vectorStoreIdx 𝒱₀ (thr d L) none Set.univ (base := sAcc)) $$ Hc; iintro Hc
    ihave Hacc := (Entails.of_eq (pts_acc_add d L _ _ _ hh _ _)) $$ Hc
    sl_step
    rw [show hists (chunkOf pk (wL L)) (chunkOf lb (wL L)) (k.val + 1) = _ from hists_succ _ _ k]
    isplitl [HP]; · iexact HP
    isplitl [HL]; · iexact HL
    isplitl [Hcnt]; · iexact Hcnt
    isplitl [Hcnf]; · iexact Hcnf
    iexact Hacc
  · unfold inv
    have hz : ∀ p ∈ (hist_run.sl.Hcnt_16 : List (View.Piece (Elt F) S256 .f32)), ∀ x : p.1.shape.Idx, p.2 x = (zeros : Vec F S256 .f32) (p.1.emb x) := by
      sl_unfold_run_names
      repeat (refine List.forall_mem_cons.2 ⟨fun x => rfl, ?_⟩)
      exact fun _ h => absurd h List.not_mem_nil
    have hcov := View.cover_of_tiled (hist_run.sl.Hcnt_16 : List (View.Piece (Elt F) S256 .f32)) (fun _ => 16) rfl
    have e1 : (sP).view.write (Elt F) fP (hist_run.sl.dma0 L pk) Finset.univ = chunkOf pk (wL L) :=
      (View.write_whole_univ _ _ _).trans (read_pkK L pk)
    have e2 : (sL).view.write (Elt F) fL (hist_run.sl.dma0_1 L lb) Finset.univ = chunkOf lb (wL L) :=
      (View.write_whole_univ _ _ _).trans (read_lbK L lb)
    rw [e1, e2]
    isplitl [HP]; · iexact HP
    isplitl [HL]; · iexact HL
    isplitl [Hcnt]; · rw [show _ = _ from writes_whole_eq cc1_scratch2 _ zeros _ hz hcov]; iexact Hcnt
    isplitl [Hcnf]; · rw [show _ = _ from writes_whole_eq cc1_scratch3 _ zeros _ hz hcov]; iexact Hcnf
    rw [show _ = _ from writes_whole_eq cc1_scratch4 _ zeros _ hz hcov]; iexact Hacc
  unfold inv
  iintro %_ ⟨HP, HL, Hcnt, Hcnf, Hacc⟩
  sl_exec
  have eo : (View.whole (cc1_scratch5 : Ref sig .scVector)).writes (Elt F) f5 (hist_run.sl.Hout_3 L pk lb)
      = outOf (hists (chunkOf pk (wL L)) (chunkOf lb (wL L)) k1_t1_loop.trips) := by
    refine writes_whole_eq _ _ _ _ ?_ (View.cover_of_tiled (hist_run.sl.Hout_3 L pk lb) (fun _ => 16) rfl)
    sl_unfold_run_names
    refine List.forall_mem_cons.2 ⟨fun x => ?_, List.forall_mem_cons.2 ⟨fun x => ?_, List.forall_mem_cons.2 ⟨fun x => ?_, fun _ h => absurd h List.not_mem_nil⟩⟩⟩
    · refine Eq.trans (congrFun ?_ x) (outOf_acc (hists (chunkOf pk (wL L)) (chunkOf lb (wL L)) k1_t1_loop.trips) inb_S48_S16_32 x)
      simp only [k1_pay1, k1_pay2, k1_pay3, k1_pay18, k1_pay19, k1_pay20, k1_pay21, k1_pay22, k1_pay23]
      exact red_loads _
    · refine Eq.trans (congrFun ?_ x) (outOf_cnf (hists (chunkOf pk (wL L)) (chunkOf lb (wL L)) k1_t1_loop.trips) inb_S48_S16_16 x)
      simp only [k1_pay1, k1_pay2, k1_pay3, k1_pay18, k1_pay19, k1_pay20, k1_pay21, k1_pay22, k1_pay23]
      exact red_loads _
    · refine Eq.trans (congrFun ?_ x) (outOf_cnt (hists (chunkOf pk (wL L)) (chunkOf lb (wL L)) k1_t1_loop.trips) inb_S48_S16_0 x)
      simp only [k1_pay1, k1_pay2, k1_pay3, k1_pay18, k1_pay19, k1_pay20, k1_pay21, k1_pay22, k1_pay23]
      exact red_loads _
  sl_step
  ihave Ho := (Entails.of_eq (row_congr d L fo pk lb (hist_run.sl.dma54 L pk lb f5) ((View.read_whole _ _).trans eo))) $$ Ho
  isplitl [Hpk]; · iexact Hpk
  isplitl [Hlb]; · iexact Hlb
  isplitl [Ho]; · iexact Ho
  isplitl [HP]; · iexists _; iexact HP
  isplitl [HL]; · iexists _; iexact HL
  isplitl [Hcnt]; · iexists _; iexact Hcnt
  isplitl [Hcnf]; · iexists _; iexact Hcnf
  isplitl [Hacc]; · iexists _; iexact Hacc
  isplitl [Hout]; · iexists _; iexact Hout
  isplitl [Hs0]; · iexact Hs0
  isplitl [Hs1]; · iexact Hs1
  isplitl [Hs2]; · iexact Hs2
  iexists _; iexact HO

end Cert.Proof.Hist

end
-- ==== Proof.Launch.lean ====
/-
  The histogram call as the launch theorem asks for it: what its handshakes carry, the task's obligation at every
  core and subcore, and the split of a core's share over its subcores.
-/
module

public import proofs.«01_k».proof.Proof.Tile
public import Idealize.ShloMosaic.Lib.Ring

@[expose] public section

noncomputable section

namespace Cert.Proof.Hist

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## What the handshakes carry -/

section Pay

variable (pk lb : (d : Dev nD) → Vec F S1000448 .f32)

/-- A tile's stretches of the two arrays it reads. -/
def inPts (d : Dev nD) (w : Fin 32) : sProp 𝕄 :=
  iprop((pkLoc d ↦[chunkSet w]{fullShare} pk d) ∗ (lbLoc d ↦[chunkSet w]{fullShare} lb d))
/-- A tile's row of the result, before the call at some contents. -/
def goPts (d : Dev nD) (w : Fin 32) : sProp 𝕄 := iprop(inPts pk lb d w ∗ ∃ f : Vec F S32x48 .f32, oLoc d ↦[rowSet w]{fullShare} f)
/-- The same after the call: the row holds the tile's histograms. -/
def tdPts (d : Dev nD) (w : Fin 32) : sProp 𝕄 := iprop(inPts pk lb d w ∗ oLoc d ↦[rowSet w]{fullShare} rowsOf (pk d) (lb d))

instance goPts_storable (d : Dev nD) (w : Fin 32) : BI.Storable (upEmb : UEmb _ 𝕄) (goPts pk lb d w) := by
  unfold goPts inPts; infer_instance
instance tdPts_storable (d : Dev nD) (w : Fin 32) : BI.Storable (upEmb : UEmb _ 𝕄) (tdPts pk lb d w) := by
  unfold tdPts inPts; infer_instance

/-- The tile a core and subcore of the call are. -/
abbrev tile (c : Fin ((K (F := F)).nCore 0)) (i : Fin ((K (F := F)).nSub 0)) : Fin 32 := tileOf c i

/-- The call takes to each tile its stretches and its row, and brings them back, the row filled. -/
def P : (K (F := F)).Pay (nD := nD) (Val := Elt F) (Name := ℕ) (U := UU) where
  st := fun q d c => match q with | 0 => bigSep Finset.univ fun i => goPts pk lb d (tile c i)
  dn := fun q d c => match q with | 0 => bigSep Finset.univ fun i => tdPts pk lb d (tile c i)
  go := fun q d c i => match q with | 0 => goPts pk lb d (tile c i)
  td := fun q d c i => match q with | 0 => tdPts pk lb d (tile c i)
  x := fun _ _ => iprop(emp)

instance P_storable : (P pk lb).IsStorable where
  st q d c := match q with
    | 0 => (inferInstance : BI.Storable (upEmb : UEmb _ 𝕄) (bigSep Finset.univ fun i => goPts pk lb d (tile c i)))
  dn q d c := match q with
    | 0 => (inferInstance : BI.Storable (upEmb : UEmb _ 𝕄) (bigSep Finset.univ fun i => tdPts pk lb d (tile c i)))
  go q d c i := match q with | 0 => (inferInstance : BI.Storable (upEmb : UEmb _ 𝕄) (goPts pk lb d (tile c i)))
  td q d c i := match q with | 0 => (inferInstance : BI.Storable (upEmb : UEmb _ 𝕄) (tdPts pk lb d (tile c i)))

/-- A core's share is its subcores' shares. -/
theorem vecSplit : (K (F := F)).VecSplit' (P pk lb) 0 := by
  intro d c
  show (bigSep Finset.univ fun i => goPts pk lb d (tile c i)) ⊢ |={Set.univ}=> iprop(
      (bigSep Finset.univ fun i : Fin ((K (F := F)).nSub 0) => goPts pk lb d (tile c i))
      ∗ ((bigSep Finset.univ fun i : Fin ((K (F := F)).nSub 0) => tdPts pk lb d (tile c i))
          -∗ (bigSep Finset.univ fun i => tdPts pk lb d (tile c i))))
  iintro H; imodintro
  isplitl [H]; · iexact H
  iintro H; iexact H

end Pay

/-! ## The task -/

section Task

variable (d : Dev nD) (L : grid1.Coords)

theorem set_pkK : (pkK L).view.set = chunkSet (wL L) := by
  show ((View.whole (main_v5_scv : Ref sig .scVector)).slice (Rect.unit (s := S1000448) (k1_off1 L) S31264.size (k1_off1_inb L))).set = _
  rw [View.set_slice_whole]
  refine congrArg (fun r : Rect _ => r.set) ?_
  unfold chunk Rect.part Rect.block
  congr 1 <;> funext a
  · rw [k1_off1_eq]
    match a with
    | 0 => simp [Shape.partIx, Shape.partSize]; omega
  · match a with
    | 0 => simp [Shape.partSize]
theorem set_lbK : (lbK L).view.set = chunkSet (wL L) := set_pkK L
theorem set_oK : (oK L).view.set = rowSet (wL L) := by
  show (((View.whole (main_v10_scv : Ref sig .scVector)).slice (Rect.unit (s := S32x48) (k1_off3 L) S1x48.size (k1_off3_inb L))).reshape S48
    squeezes_S1x48_S48.numel_eq).set = _
  rw [View.set_reshape, View.set_slice_whole]
  refine congrArg (fun r : Rect _ => r.set) ?_
  unfold row Rect.part Rect.block
  congr 1 <;> funext a
  · rw [k1_off3_eq]
    match a with
    | 0 => simp [Shape.partIx, Shape.partSize]
    | 1 => simp [Shape.partIx, Shape.partSize]
  · match a with
    | 0 => simp [Shape.partSize]
    | 1 => simp [Shape.partSize]

theorem pts_pkK (f : Vec F S1000448 .f32) :
    ((pkK L).view.loc (thr d L) ↦[(pkK L).view.set]{fullShare} f : sProp 𝕄) = pkLoc d ↦[chunkSet (wL L)]{fullShare} f := by rw [set_pkK]
theorem pts_lbK (f : Vec F S1000448 .f32) :
    ((lbK L).view.loc (thr d L) ↦[(lbK L).view.set]{fullShare} f : sProp 𝕄) = lbLoc d ↦[chunkSet (wL L)]{fullShare} f := by rw [set_lbK]
theorem pts_oK (f : Vec F S32x48 .f32) :
    ((oK L).view.loc (thr d L) ↦[(oK L).view.set]{fullShare} f : sProp 𝕄) = oLoc d ↦[rowSet (wL L)]{fullShare} f := by rw [set_oK]

/-- The task's three semaphores, and its six scratch buffers. -/
def semOf (k : Fin 3) : SemLoc sig := ![SemLoc.dma cc1_scoped0.sem, SemLoc.dma cc1_scoped1.sem, SemLoc.dma cc1_scoped2.sem] k
def scrOf (k : Fin 6) : Ref sig .scVector := ![cc1_scratch0, cc1_scratch1, cc1_scratch2, cc1_scratch3, cc1_scratch4, cc1_scratch5] k

theorem semOf_inj : Function.Injective semOf := by decide
theorem scrOf_inj : Function.Injective scrOf := by decide

/-- Among the subcore's own semaphores, all at zero, are the task's three. -/
theorem ownSems0_V :
    (ownSems0 (thr d L) : sProp 𝕄)
      = iprop((semVal (thr d L, SemLoc.dma cc1_scoped0.sem) 0 ∗ semVal (thr d L, SemLoc.dma cc1_scoped1.sem) 0 ∗ semVal (thr d L, SemLoc.dma cc1_scoped2.sem) 0)
          ∗ bigSep (ownCells (thr d L) \ Finset.univ.image fun k => ((thr d L, semOf k) : GSem nD τ sig)) fun g => semVal g 0) := by
  unfold SparseCore.Cfg.ownSems0
  rw [SparseCore.bigSep_sdiff_split' (t := Finset.univ.image fun k => ((thr d L, semOf k) : GSem nD τ sig))
      (Finset.image_subset_iff.mpr fun k _ => mem_ownCells.mpr ⟨rfl, (show ∀ k, (semOf k).isScoped .scVector = true by decide) k⟩),
    SparseCore.bigSep_image_of_injOn (fun a _ b _ h => semOf_inj (Prod.mk.inj h).2), bigSep_univ_eq_bigSepL [0, 1, 2] (by decide) (by decide)]
  rfl

/-- Among the subcore's own buffers are the task's six. -/
theorem ownBufs_V :
    (ownBufs (thr d L) : sProp 𝕄)
      = iprop(((∃ f, (sP).view.loc (thr d L) ↦{fullShare} f) ∗ (∃ f, (sL).view.loc (thr d L) ↦{fullShare} f) ∗ (∃ f, (sCnt).view.loc (thr d L) ↦{fullShare} f)
          ∗ (∃ f, (sCnf).view.loc (thr d L) ↦{fullShare} f) ∗ (∃ f, (sAcc).view.loc (thr d L) ↦{fullShare} f) ∗ (∃ f, (sOut).view.loc (thr d L) ↦{fullShare} f))
          ∗ bigSep (ownRefs (τ := τ) (.scVector (cV L) (jV L)) \ Finset.univ.image fun k => (Proc.scVector (cV L) (jV L)).devRef (scrOf k))
              fun b => iprop(∃ f, ((d, b) : Loc nD τ sig) ↦{fullShare} f)) := by
  unfold SparseCore.Cfg.ownBufs
  have hm : ∀ k, (Proc.scVector (cV L) (jV L)).devRef (scrOf k) ∈ ownRefs (τ := τ) (.scVector (cV L) (jV L)) := fun k => by
    fin_cases k <;> exact SparseCore.Cfg.mem_ownRefs_of_owner rfl
  refine (SparseCore.bigSep_sdiff_split' (t := Finset.univ.image fun k => (Proc.scVector (cV L) (jV L)).devRef (scrOf k))
      (Finset.image_subset_iff.mpr fun k _ => hm k)).trans ?_
  rw [SparseCore.bigSep_image_of_injOn (fun a _ b _ h => scrOf_inj (Proc.devRef_injective _ h)),
    bigSep_univ_eq_bigSepL [0, 1, 2, 3, 4, 5] (by decide) (by decide)]
  rfl

/-- The task on the vector subcore at `L`, as the launch hands it its resources. -/
theorem tile_body (pk lb : (d : Dev nD) → Vec F S1000448 .f32) (O : CellTallies nD τ sig (HIx 1)) (W : Waits sig (HIx 1)) (hO : ∀ g, O g none = 0) :
    iprop(levAts (K (F := F)).L (K (F := F)).lev ∗ emp ∗ goPts pk lb d (wL L)
        ∗ scopedBufs (thr d L) ∗ scopedSems0 (thr d L) ∗ owes (thr d L) O W)
      ⊢ wp frame (wpE (defs₀ (F := F)) 𝒱₀ (thr d L) none) Set.univ
          (cc1__hist_body L pkV (Memref.isWhole_whole _) lbV (Memref.isWhole_whole _) oV (Memref.isWhole_whole _)
            sP (Memref.isWhole_whole _) sL (Memref.isWhole_whole _) sCnt (Memref.isWhole_whole _) sCnf (Memref.isWhole_whole _)
            sAcc (Memref.isWhole_whole _) sOut (Memref.isWhole_whole _) cc1_scoped0 cc1_scoped1 cc1_scoped2)
          fun _ => iprop(tdPts pk lb d (wL L) ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V facts d (cV L) (jV L), SparseCore.Cfg.scopedSems0_V (Val := Elt F) d (cV L) (jV L), ownSems0_V, ownBufs_V]
  unfold goPts tdPts inPts
  iintro ⟨#Hlv, -, ⟨⟨Hpk, Hlb⟩, ⟨%fo, Ho⟩⟩, ⟨⟨⟨%fP, HP⟩, ⟨%fL, HL⟩, ⟨%f2, H2⟩, ⟨%f3, H3⟩, ⟨%f4, H4⟩, ⟨%f5, H5⟩⟩, Hbufs⟩, ⟨⟨Hs0, Hs1, Hs2⟩, Hsems⟩, HO⟩
  ihave Hmw := ((K (F := F)).mayWaits_none (thr := thr d L) hO) $$ Hlv
  ihave Hpk := (Entails.of_eq (pts_pkK d L (pk d)).symm) $$ Hpk
  ihave Hlb := (Entails.of_eq (pts_lbK d L (lb d)).symm) $$ Hlb
  ihave Ho := (Entails.of_eq (pts_oK d L fo).symm) $$ Ho
  iapply (wp_wand_r Idealize.ShloMosaic.frame (wpE (defs₀ (F := F)) 𝒱₀ (thr d L) none) Set.univ)
  isplitl [Hmw Hpk Hlb Ho HP HL H2 H3 H4 H5 Hs0 Hs1 Hs2 HO]
  · iapply (hist_run d L O W (pk d) (lb d) fo fP fL f2 f3 f4 f5)
    isplitl [Hmw]; · iexact Hmw
    isplitl [Hpk]; · iexact Hpk
    isplitl [Hlb]; · iexact Hlb
    isplitl [Ho]; · iexact Ho
    isplitl [HP]; · iexact HP
    isplitl [HL]; · iexact HL
    isplitl [H2]; · iexact H2
    isplitl [H3]; · iexact H3
    isplitl [H4]; · iexact H4
    isplitl [H5]; · iexact H5
    isplitl [Hs0]; · iexact Hs0
    isplitl [Hs1]; · iexact Hs1
    isplitl [Hs2]; · iexact Hs2
    iexact HO
  iintro %_ ⟨Hpk, Hlb, Ho, HP, HL, H2, H3, H4, H5, Hs0, Hs1, Hs2, ⟨%W', HO⟩⟩
  isplitl [Hpk Hlb Ho]
  · isplitl [Hpk Hlb]
    · isplitl [Hpk]
      · iapply (Entails.of_eq (pts_pkK d L (pk d))); iexact Hpk
      · iapply (Entails.of_eq (pts_lbK d L (lb d))); iexact Hlb
    · iapply (Entails.of_eq (pts_oK d L (rowsOf (pk d) (lb d)))); iexact Ho
  isplitl [HP HL H2 H3 H4 H5 Hbufs]
  · isplitr [Hbufs]
    · isplitl [HP]; · iexact HP
      isplitl [HL]; · iexact HL
      isplitl [H2]; · iexact H2
      isplitl [H3]; · iexact H3
      isplitl [H4]; · iexact H4
      iexact H5
    · iexact Hbufs
  isplitl [Hs0 Hs1 Hs2 Hsems]
  · isplitr [Hsems]
    · isplitl [Hs0]; · iexact Hs0
      isplitl [Hs1]; · iexact Hs1
      iexact Hs2
    · iexact Hsems
  iexists W'; isplitr
  · ipureintro; intro p _
    rcases p.2 with _ | q
    · exact .inr (.inl rfl)
    · exact .inr (.inr (congrArg some (Subsingleton.elim q 0)))
  iexact HO

end Task

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__hist_body (coordsV c s) pkV (Memref.isWhole_whole _) lbV (Memref.isWhole_whole _) oV (Memref.isWhole_whole _)
            sP (Memref.isWhole_whole _) sL (Memref.isWhole_whole _) sCnt (Memref.isWhole_whole _) sCnf (Memref.isWhole_whole _)
            sAcc (Memref.isWhole_whole _) sOut (Memref.isWhole_whole _) cc1_scoped0 cc1_scoped1 cc1_scoped2) ⟨⟩ c s := rfl

set_option maxRecDepth 4096 in
/-- Every tile's task does what the handshakes ask of it. -/
theorem tileObl (pk lb : (d : Dev nD) → Vec F S1000448 .f32) : (K (F := F)).TileObl (D (F := F)) 𝒱 (P pk lb) v₀ 0 := by
  intro d c i O W hO _ _
  simp only [show (P pk lb).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact tile_body d (coordsV ⟨_, hc.1⟩ ⟨_, hc.2⟩) pk lb O W hO

end Cert.Proof.Hist

end
-- ==== Proof.Regions.lean ====
/-
  The two TensorCore kernels of @main as pipeline regions: what their bodies leave in the staging buffers, the
  arrays after the region, and the regions as the launch chains them.
-/
module

public import proofs.«01_k».proof.Proof.Setup
public import Idealize.ShloMosaic.Lib.Pipeline.FrameBody
public import Idealize.ShloMosaic.Lib.Pipeline.ValueKit

@[expose] public section

noncomputable section

namespace Cert.Proof.Hist

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [Named F]

local notation "𝕄" => MT nD τ sig (HIx 1) (Elt F) ℕ UU ℕ

/-- A memref's buffer on core `c`, held whole. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The confidence kernel's body, from its three staging buffers held whole. -/
theorem conf_run (c : Dev nD) (i : grid0.Coords) (M0 : Memref sig .tc .vmem S4000x100 .f32) (h0 : M0.IsWhole) (M1 : Memref sig .tc .vmem S100x1 .f32) (h1 : M1.IsWhole)
    (M2 : Memref sig .tc .vmem S1x1x4000 .f32) (h2 : M2.IsWhole) (f0 : Buf (Elt F) (M0.view.loc (c : Thread nD τ))) (f1 : Buf (Elt F) (M1.view.loc (c : Thread nD τ)))
    (f2 : Buf (Elt F) (M2.view.loc (c : Thread nD τ))) (Q : PUnit → sProp 𝕄) :
    iprop(pt c M0 f0 ∗ pt c M1 f1 ∗ pt c M2 f2 ∗ (iprop(pt c M0 f0 ∗ pt c M1 f1 ∗ ∃ f, ⌜M2.view.read (Elt F) f = k0_pay1 (M0.view.read (Elt F) f0) (M1.view.read (Elt F) f1)⌝ ∗ pt c M2 f) -∗ Q ⟨⟩))
      ⊢ wp frame (wpE (defs₀ (F := F)) 𝒱₀ c none) Set.univ (cc0__conf_body i M0 h0 M1 h1 M2 h2) Q := by
  rw [cc0__conf_body_eq_skeleton]
  iintro ⟨H0, H1, H2, Hk⟩
  sl_exec!
  sl_step
  iapply Hk
  isplitl [H0]; · iexact H0
  isplitl [H1]; · iexact H1
  iexists _
  isplitr; swap
  · iexact H2
  ipureintro
  sl_unfold_run_names
  rw [View.read_writes_junk_eq_canon, View.canon_cons_unit_lit _ _ _ (by decide), View.readAt_eq_ld, View.readAt_eq_ld,
    View.ld_unit_lit _ _ (by decide), View.ld_unit_lit _ _ (by decide)]

/-- An index of a two-axis array. -/
def ix2 {a b : ℕ} (i : Fin a) (j : Fin b) : (⟨2, ![a, b]⟩ : Shape).Idx := fun k => match k with | 0 => i | 1 => j

/-- What the last kernel leaves: the mean confidences in the first row, the mean accuracies in the second. -/
def finOf (v : Vec F S32x48 .f32) : Vec F S2x16 .f32 := fun x =>
  if (x 0).val = 0 then k2_pay5 v (ix2 (a := 1) (b := 16) 0 (x 1)) else k2_pay6 v (ix2 (a := 1) (b := 16) 0 (x 1))

theorem finOf_row0 (v : Vec F S32x48 .f32) (x : S1x16.Idx) :
    finOf v ((Rect.unit (s := S2x16) ![0, 0] S1x16.size inb_S2x16_S1x16_0_0).emb x) = k2_pay5 v x := by
  have h0 : (x 0).val = 0 := by have : (x 0).val < 1 := (x 0).isLt; omega
  unfold finOf
  refine (if_pos (show 0 + 1 * (x 0).val = 0 by omega)).trans (congrArg (k2_pay5 v) (funext fun k => ?_))
  match k with
  | 0 => exact Fin.ext h0.symm
  | 1 => exact Fin.ext (show 0 + 1 * (x 1).val = (x 1).val by omega)

theorem finOf_row1 (v : Vec F S32x48 .f32) (x : S1x16.Idx) :
    finOf v ((Rect.unit (s := S2x16) ![1, 0] S1x16.size inb_S2x16_S1x16_1_0).emb x) = k2_pay6 v x := by
  have h0 : (x 0).val = 0 := by have : (x 0).val < 1 := (x 0).isLt; omega
  unfold finOf
  refine (if_neg (show ¬ 1 + 1 * (x 0).val = 0 by omega)).trans (congrArg (k2_pay6 v) (funext fun k => ?_))
  match k with
  | 0 => exact Fin.ext h0.symm
  | 1 => exact Fin.ext (show 0 + 1 * (x 1).val = (x 1).val by omega)

/-- The last kernel's body, from its two staging buffers held whole. -/
theorem final_run (c : Dev nD) (M0 : Memref sig .tc .vmem S32x48 .f32) (h0 : M0.IsWhole) (M1 : Memref sig .tc .vmem S2x16 .f32) (h1 : M1.IsWhole)
    (f0 : Buf (Elt F) (M0.view.loc (c : Thread nD τ))) (f1 : Buf (Elt F) (M1.view.loc (c : Thread nD τ))) (Q : PUnit → sProp 𝕄) :
    iprop(pt c M0 f0 ∗ pt c M1 f1 ∗ (iprop(pt c M0 f0 ∗ ∃ f, ⌜M1.view.read (Elt F) f = finOf (M0.view.read (Elt F) f0)⌝ ∗ pt c M1 f) -∗ Q ⟨⟩))
      ⊢ wp frame (wpE (defs₀ (F := F)) 𝒱₀ c none) Set.univ (cc2__final_body M0 h0 M1 h1) Q := by
  rw [cc2__final_body_eq_skeleton]
  iintro ⟨H0, H1, Hk⟩
  sl_exec!
  sl_step
  iapply Hk
  isplitl [H0]; · iexact H0
  iexists _
  isplitr; swap
  · iexact H1
  ipureintro
  sl_unfold_run_names
  rw [View.readAt_eq_ld, View.ld_unit_lit _ _ (by decide)]
  exact funext fun y => View.read_writes_apply_of_pieces (v := M1.view) (f := M1.view.junk) (finOf (M0.view.read (Elt F) f0)) _
    (List.forall_mem_cons.2 ⟨fun x => (finOf_row1 _ x).symm, List.forall_mem_cons.2 ⟨fun x => (finOf_row0 _ x).symm, fun _ h => absurd h List.not_mem_nil⟩⟩)
    y (View.cover_of_tiled _ ![1, 16] rfl y)

/-! ## The regions' proof data -/

section Data

variable (W : Dev nD → Valuation τ sig (Elt F))

/-- An array of the TensorCore at a valuation. -/
abbrev at_ (c : Dev nD) (b : Ref sig .tc) : Buf (Elt F) ((c : Thread nD τ).loc b) := W c (Proc.devRef .tc b)

/-- The block of the first operand, and the column of class numbers, as the confidence kernel is handed them. -/
abbrev blkA (c : Dev nD) (t : Fin cfg0.N) : Vec F S4000x100 .f32 := (win0_0.blk t).view.read (Elt F) (at_ W c main_arg0)
abbrev blkB (c : Dev nD) (t : Fin cfg0.N) : Vec F S100x1 .f32 := (win0_1.blk t).view.read (Elt F) (at_ W c main_v1)
/-- The histograms as the last kernel is handed them. -/
abbrev blkC (c : Dev nD) (t : Fin cfg2.N) : Vec F S32x48 .f32 := (win2_0.blk t).view.read (Elt F) (at_ W c main_v10)

/-- The (cell, index) pairs the TensorCore's waits may have recorded before SparseCore call `n`. -/
def recd (c : Dev nD) (n : ℕ) : Set (SemLoc sig × HIx 1) := {p | (K (F := F)).lev ((c : Thread nD τ), p.1) p.2 ≤ 8 * (n : ℕ)}

/-- The proof data of the confidence kernel, entered at the valuation `W`. -/
def dat0 (c : Dev nD) : Dat τ (Elt F) (HIx 1) ℕ UU ℕ cfg0 c where
  A w := at_ W c (Pipeline.arrRef spec0 w)
  after w t := match w with
    | ⟨0, _⟩ => blkA W c t
    | ⟨1, _⟩ => blkB W c t
    | ⟨2, _⟩ => k0_pay1 (blkA W c t) (blkB W c t)
  Φ _ := Pipeline.scopedRest (Ix := HIx 1) (Name := ℕ) (U := UU) (Lvl := ℕ) (Val := Elt F) spec0 c
  q _ := fullShare
  owed _ := (K (F := F)).Otc c 0
  recorded _ := recd (F := F) c 0

/-- The proof data of the last kernel, entered at the valuation `W`. -/
def dat2 (c : Dev nD) : Dat τ (Elt F) (HIx 1) ℕ UU ℕ cfg2 c where
  A w := at_ W c (Pipeline.arrRef spec2 w)
  after w t := match w with
    | ⟨0, _⟩ => blkC W c t
    | ⟨1, _⟩ => finOf (blkC W c t)
  Φ _ := Pipeline.scopedRest (Ix := HIx 1) (Name := ℕ) (U := UU) (Lvl := ℕ) (Val := Elt F) spec2 c
  q _ := fullShare
  owed _ := (K (F := F)).Otc c 1
  recorded _ := recd (F := F) c 1

theorem before0_0 (c : Dev nD) (t : Fin cfg0.N) (d : (cfg0.win 0).block.Idx → Elt F (cfg0.win 0).elt) : (dat0 W c).before 0 t d = blkA W c t := by
  unfold Dat.before; rw [if_pos (fetch0_0 t)]; rfl
theorem before0_1 (c : Dev nD) (t : Fin cfg0.N) (d : (cfg0.win 1).block.Idx → Elt F (cfg0.win 1).elt) : (dat0 W c).before 1 t d = blkB W c t := by
  rw [(dat0 W c).before_in_eq_fetched 1 rfl (fun _ => rfl) (fun _ _ _ => rfl) (fun _ => rfl) t d]; rfl
theorem before2_0 (c : Dev nD) (t : Fin cfg2.N) (d : (cfg2.win 0).block.Idx → Elt F (cfg2.win 0).elt) : (dat2 W c).before 0 t d = blkC W c t := by
  unfold Dat.before; rw [if_pos (fetch2_0 t)]; rfl

/-- A whole memref owned at contents that are read through it, as its buffer held whole. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns pt; rw [h.set_eq_univ]

/-- The confidence kernel's body at every point, as the pipeline asks for it. -/
theorem body0 (c : Dev nD) : BodyObligation (dat0 W c) (defs₀ (F := F)) 𝒱₀ none Set.univ := fun t => by
  rw [bigSep_W0, bigSep_W0]
  simp only [owns_pt c (stage0_0 (cfg0.slots t 0)) (hstage0_0 ((cfg0.slots t 0).cast nbuf0_0)), owns_pt c (stage0_1 (cfg0.slots t 1)) (hstage0_1 ((cfg0.slots t 1).cast nbuf0_1)), owns_pt c (stage0_2 (cfg0.slots t 2)) (hstage0_2 ((cfg0.slots t 2).cast nbuf0_2))]
  rw [show (dat0 W c).Φ t.castSucc = (dat0 W c).Φ t.succ from rfl, show (dat0 W c).owesAt none t.succ = (dat0 W c).owesAt none t.castSucc from rfl]
  iintro ⟨HΦ, Howes, ⟨%d0, %f0, %hf0, H0⟩, ⟨%d1, %f1, %hf1, H1⟩, ⟨%d2, %f2, -, H2⟩⟩
  rw [before0_0] at hf0; rw [before0_1] at hf1
  iapply (conf_run c (grid0.coords t) _ (hstage0_0 ((cfg0.slots t 0).cast nbuf0_0)) _ (hstage0_1 ((cfg0.slots t 1).cast nbuf0_1)) _ (hstage0_2 ((cfg0.slots t 2).cast nbuf0_2)) f0 f1 f2 _)
  isplitl [H0]; · iexact H0
  isplitl [H1]; · iexact H1
  isplitl [H2]; · iexact H2
  iintro ⟨H0, H1, %f, %hf, H2⟩
  isplitl [HΦ]; · iexact HΦ
  isplitl [Howes]; · iexact Howes
  isplitl [H0]; · iexists _; isplitr; swap; (· iexact H0); ipureintro; exact hf0
  isplitl [H1]; · iexists _; isplitr; swap; (· iexact H1); ipureintro; exact hf1
  iexists _; isplitr; swap; (· iexact H2); ipureintro; exact hf.trans (congrArg₂ k0_pay1 hf0 hf1)

/-- The last kernel's body at its point, as the pipeline asks for it. -/
theorem body2 (c : Dev nD) : BodyObligation (dat2 W c) (defs₀ (F := F)) 𝒱₀ none Set.univ := fun t => by
  rw [bigSep_W2, bigSep_W2]
  simp only [owns_pt c (stage2_0 0) (hstage2_0 0), owns_pt c (stage2_1 0) (hstage2_1 0)]
  rw [show (dat2 W c).Φ t.castSucc = (dat2 W c).Φ t.succ from rfl, show (dat2 W c).owesAt none t.succ = (dat2 W c).owesAt none t.castSucc from rfl]
  iintro ⟨HΦ, Howes, ⟨%d0, %f0, %hf0, H0⟩, ⟨%d1, %f1, -, H1⟩⟩
  rw [before2_0] at hf0
  iapply (final_run c _ (hstage2_0 0) _ (hstage2_1 0) f0 f1 _)
  isplitl [H0]; · iexact H0
  isplitl [H1]; · iexact H1
  iintro ⟨H0, %f, %hf, H1⟩
  isplitl [HΦ]; · iexact HΦ
  isplitl [Howes]; · iexact Howes
  isplitl [H0]; · iexists _; isplitr; swap; (· iexact H0); ipureintro; exact hf0
  iexists _; isplitr; swap; (· iexact H1); ipureintro; exact hf.trans (congrArg finOf hf0)

/-! ## The arrays after the regions -/

/-- An index of a three-axis array. -/
def ix3 {a b c : ℕ} (i : Fin a) (j : Fin b) (k : Fin c) : (⟨3, ![a, b, c]⟩ : Shape).Idx := fun n => match n with | 0 => i | 1 => j | 2 => k

/-- Block `t` of the logits: 4000 consecutive rows. -/
def blkOf (A : Vec F S1000000x100 .f32) (t : Fin 250) : Vec F S4000x100 .f32 := fun y =>
  A (ix2 (a := 1000000) (b := 100) ⟨4000 * t.val + (y 0).val, by have := t.isLt; have : (y 0).val < 4000 := (y 0).isLt; omega⟩ (y 1))

/-- The packed predictions and confidences, as the confidence kernel leaves them. -/
def confOf (A : Vec F S1000000x100 .f32) (B : Vec F S100x1 .f32) : Vec F S250x1x4000 .f32 := fun x =>
  k0_pay1 (blkOf A (x 0)) B (ix3 (a := 1) (b := 1) (c := 4000) 0 0 (x 2))

theorem index0_2 : ∀ t : Fin cfg0.N, win0_2.index t 0 = t.val ∧ win0_2.index t 1 = 0 ∧ win0_2.index t 2 = 0 := by decide +kernel
theorem index0_0 : ∀ t : Fin cfg0.N, win0_0.index t 0 = t.val ∧ win0_0.index t 1 = 0 := by decide +kernel
theorem index0_1 : ∀ t : Fin cfg0.N, win0_1.index t 0 = 0 ∧ win0_1.index t 1 = 0 := by decide +kernel
theorem index2_0 : ∀ t : Fin cfg2.N, win2_0.index t 0 = 0 ∧ win2_0.index t 1 = 0 := by decide +kernel
theorem index2_1 : ∀ t : Fin cfg2.N, win2_1.index t 0 = 0 ∧ win2_1.index t 1 = 0 := by decide +kernel

theorem blkA_eq (c : Dev nD) (t : Fin cfg0.N) : blkA W c t = blkOf (at_ W c main_arg0) (t.cast N_0) := funext fun y => by
  have h := index0_0 t
  show at_ W c main_arg0 ((win0_0.blk t).view.emb y) = _
  refine congrArg (at_ W c main_arg0) (funext fun a => Fin.ext ?_)
  fin_cases a
  · blk_simp [h.1]; exact congrArg₂ (· + ·) (Nat.mul_comm _ _) rfl
  · blk_simp [h.2]; rfl

theorem blkB_eq (c : Dev nD) (t : Fin cfg0.N) : blkB W c t = at_ W c main_v1 := funext fun y => by
  have h := index0_1 t
  show at_ W c main_v1 ((win0_1.blk t).view.emb y) = _
  refine congrArg (at_ W c main_v1) (funext fun a => Fin.ext ?_)
  fin_cases a <;> blk_simp [h.1, h.2] <;> omega

theorem blkC_eq (c : Dev nD) (t : Fin cfg2.N) : blkC W c t = at_ W c main_v10 := funext fun y => by
  have h := index2_0 t
  show at_ W c main_v10 ((win2_0.blk t).view.emb y) = _
  refine congrArg (at_ W c main_v10) (funext fun a => Fin.ext ?_)
  fin_cases a <;> blk_simp [h.1, h.2] <;> omega

theorem arr0_2 (c : Dev nD) : (dat0 W c).arrAt 2 cfg0.N = confOf (at_ W c main_arg0) (at_ W c main_v1) := by
  refine (dat0 W c).arrAt_eq_of_covers 2 _ (by decide +kernel) fun t hf y => ?_
  blk_simp
  have h := index0_2 t
  have h0 : (y 0).val < 1 := (y 0).isLt
  have h1 : (y 1).val < 1 := (y 1).isLt
  show k0_pay1 (blkA W c t) (blkB W c t) y = _
  rw [blkA_eq, blkB_eq]
  unfold confOf
  refine congr (congrArg (fun u => k0_pay1 (blkOf (at_ W c main_arg0) u) (at_ W c main_v1)) (Fin.ext ?_)) (funext fun a => Fin.ext ?_)
  · blk_simp [h.1]; simp only [Fin.val_cast]; try omega
  · fin_cases a
    · show (y 0).val = 0; omega
    · show (y 1).val = 0; omega
    · show (y 2).val = ((win0_2.blk t).view.emb y 2).val; blk_simp [h.2.2]; try omega

theorem arr2_1 (c : Dev nD) : (dat2 W c).arrAt 1 cfg2.N = finOf (at_ W c main_v10) := by
  refine (dat2 W c).arrAt_eq_of_covers 1 _ (by decide +kernel) fun t hf y => ?_
  blk_simp
  have h := index2_1 t
  show finOf (blkC W c t) y = _
  rw [blkC_eq]
  refine congrArg (finOf (at_ W c main_v10)) (funext fun a => Fin.ext ?_)
  fin_cases a <;> blk_simp [h.1, h.2] <;> omega

/-! ## The regions over the thread state -/

/-- What the TensorCore's thread state is around a region before SparseCore call `n`: its unscoped buffers at a
    valuation, and the tokens it still owes, its recorded waits bounded. -/
def regSt (n : ℕ) (V : Dev nD → Valuation τ sig (Elt F)) (c : Dev nD) : sProp 𝕄 :=
  iprop(unscopedBufs c (fun b => V c (Proc.devRef .tc b)) ∗ ∃ Wd, ⌜(K (F := F)).WBelow (c : Thread nD τ) Wd (8 * n)⌝ ∗ owes (c : Thread nD τ) ((K (F := F)).Otc c n) Wd)

theorem Otc_none (c : Dev nD) (n : ℕ) (g : GSem nD τ sig) : (K (F := F)).Otc c n g none = 0 := by
  by_contra h
  have := (K (F := F)).lev_of_Otc_pos (d := c) (n := n) (g := g) (ι := none) (Nat.pos_of_ne_zero h)
  exact absurd this (by show ¬ _ ≤ 0; omega)

abbrev adm : (p : Fin 2) → (pcfgs (F := F) p).Adm := fun p => (cfgs p).toPCfg_adm

set_option backward.isDefEq.respectTransparency.types false in
/-- A TensorCore kernel of @main as a region over that thread state: entered with the windows' arrays split out of
    the unscoped buffers, left with them put back at the valuation `V'`. -/
def seg (n : ℕ) (p : Fin 2) (hl : Pipeline.LaunchFacts (nD := nD) (τ := τ) (cfgs) p) (V V' : Dev nD → Valuation τ sig (Elt F))
    (pdats : (p : Fin 2) → (c : Dev nD) → Dat τ (Elt F) (HIx 1) ℕ UU ℕ (Pipeline.pin (pcfgs (F := F)) adm p) c)
    (hq : ∀ c w, (pdats p c).q w = fullShare)
    (hA : ∀ c w, (pdats p c).A w = V c (Proc.devRef .tc (Pipeline.arrRef (cfgs p).spec w)))
    (hΦ : ∀ c t, (pdats p c).Φ t = Pipeline.scopedRest (Ix := HIx 1) (Name := ℕ) (U := UU) (Lvl := ℕ) (Val := Elt F) (cfgs p).spec c)
    (ho : ∀ c t, (pdats p c).owed t = (K (F := F)).Otc c n) (hr : ∀ c t, (pdats p c).recorded t = recd (F := F) c n)
    (hbody : ∀ c, BodyObligation (pdats p c) (defs₀ (F := F)) 𝒱₀ none Set.univ)
    (hV : ∀ c w, (pdats p c).arrAt w (Pipeline.pin (pcfgs (F := F)) adm p).N = V' c (Proc.devRef .tc (Pipeline.arrRef (cfgs p).spec w)))
    (hne : ∀ c (b : Ref sig .tc), (∀ w, b ≠ Pipeline.arrRef (cfgs p).spec w) → V' c (Proc.devRef .tc b) = V c (Proc.devRef .tc b)) :
    Pipeline.RegionSeg (pcfgs (F := F)) adm pdats none defs₀ 𝒱₀ (K (F := F)).L (K (F := F)).lev p where
  win := hl.win.to₀
  block_pos := hl.block_pos
  stage_whole := hl.stage_whole
  K := PEmpty
  osem k := k.elim
  ho := Pipeline.OwnSemFacts.none _
  hbody c := (hbody c).loose
  hwaits c := Pipeline.cellsWaits_intro _ pdats none p c fun w s t => (K (F := F)).mayWait_none _ (by rw [ho]; exact Otc_none c n)
  pre := regSt n V
  post := regSt n V'
  X _ := BI.emp
  Y _ := BI.emp
  Z c := Pipeline.unscopedRest (Ix := HIx 1) (Name := ℕ) (U := UU) (Lvl := ℕ) (cfgs p).spec c (fun b => V c (Proc.devRef .tc b))
  hentry c := by
    rw [Pipeline.ownSems0_none]
    have hsplit := Pipeline.arrays_of_unscopedBufs (p := p) (pcfgs (F := F)) adm pdats hl.win hl.arr_whole c
      ((pdats p c).share_full (hq c)) (fun b => V c (Proc.devRef .tc b)) (hA c)
    unfold regSt
    iintro ⟨⟨Hub, %Wd, %hWd, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho]
      iexists Wd; isplitr; · ipureintro; exact fun x hx => Or.inl (by rw [hr]; exact hWd x hx)
      iexact HO
    isplitr; · iempintro
    iexact Hrest
  hin c := by
    rw [hΦ]
    iintro ⟨-, -, Hr⟩; iexact Hr
  hout c := by
    rw [Pipeline.ownSems0_none, hΦ]
    iintro Hr
    isplitr; · iempintro
    isplitr; · iempintro
    iexact Hr
  hexit c := by
    have hjoin := Pipeline.unscopedBufs_of_arrays (p := p) (pcfgs (F := F)) adm (Ix := HIx 1) (Name := ℕ) (U := UU) (Lvl := ℕ) hl.win hl.arr_whole c
      pdats ((pdats p c).share_full (hq c)) (fun b => V c (Proc.devRef .tc b)) (fun b => V' c (Proc.devRef .tc b)) ((pdats p c).arrAt · (Pipeline.pin (pcfgs (F := F)) adm p).N)
      (hV c) (fun b hb => hne c b fun w h => hb (h ▸ Finset.mem_image.mpr ⟨w, Finset.mem_univ _, rfl⟩))
    iintro ⟨Ha, HO, -, Hrest⟩
    imodintro
    unfold regSt
    isplitl [Ha Hrest]
    · iapply hjoin; isplitl [Ha] <;> iassumption
    unfold Pipeline.Dat.owesAt Pipeline.owesWithin
    rw [ho]
    icases HO with ⟨%Wd, %hWd, HO⟩
    iexists Wd
    isplitr
    · ipureintro
      intro x hx
      rcases hWd hx with h | ⟨w, s, h⟩
      · rw [hr] at h; exact h
      · rw [h]; exact Nat.zero_le _
    iexact HO

end Data

end Cert.Proof.Hist

end
-- ==== Proof.Main.lean ====
/-
  @main: its host operations, its two TensorCore kernels and its SparseCore call one after the other, the
  buffers' contents after each written as a valuation; the launch; and the program's run.
-/
module

public import proofs.«01_k».proof.Proof.Launch
public import proofs.«01_k».proof.Proof.Regions
public import Idealize.ShloMosaic.Lib.Pipeline.Frame

@[expose] public section

noncomputable section

namespace Cert.Proof.Hist

open Cert.KernelIdeal Cert.KernelIdeal.Gen
open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf ucRefs)

variable {F : FTy → Type} [FloatOps F] [Named F]

local notation "𝕄" => MT nD τ sig (HIx 1) (Elt F) ℕ UU ℕ

/-! ## The host operations -/

/-- The column of class numbers. -/
def opsA : List (HloOp τ sig (Elt F)) :=
  [StableHlo.nullary main_v0 (sitofp .f32 (iotaInDim S100 32 0)),
   StableHlo.reshape main_v0 main_v1 (rfl : (.f32 : EltTy) = .f32) shapeCasts_S100_S100x1]

/-- The packed array and the labels, padded to a multiple of the tiles. -/
def opsB : List (HloOp τ sig (Elt F)) :=
  [StableHlo.nullary main_cst (constant S_ .f32 0x00000000#32),
   StableHlo.unary main_cst main_v3 (broadcastInDim S448 ![] bcast_S_S448 : (⟨S_, .f32⟩ : BufTy).Contents (Elt F) → (⟨S448, .f32⟩ : BufTy).Contents (Elt F)),
   StableHlo.reshape main_v2 main_v4 (rfl : (.f32 : EltTy) = .f32) shapeCasts_S250x1x4000_S1000000,
   StableHlo.binary main_v4 main_v3 main_v5 ((fun a b => concatenate S1000448 0 [⟨S1000000, a⟩, ⟨S448, b⟩] concatenates_S1000000_S448_S1000448_d0) : (⟨S1000000, .f32⟩ : BufTy).Contents (Elt F) → (⟨S448, .f32⟩ : BufTy).Contents (Elt F) → (⟨S1000448, .f32⟩ : BufTy).Contents (Elt F)),
   StableHlo.unary main_arg1 main_v6 (sitofp .f32 : (⟨S1000000, .i32⟩ : BufTy).Contents (Elt F) → (⟨S1000000, .f32⟩ : BufTy).Contents (Elt F)),
   StableHlo.nullary main_cst_0 (constant S_ .f32 0x3F800000#32),
   StableHlo.unary main_cst_0 main_v7 (broadcastInDim S448 ![] bcast_S_S448 : (⟨S_, .f32⟩ : BufTy).Contents (Elt F) → (⟨S448, .f32⟩ : BufTy).Contents (Elt F)),
   StableHlo.binary main_v3 main_v7 main_v8 (addf : (⟨S448, .f32⟩ : BufTy).Contents (Elt F) → (⟨S448, .f32⟩ : BufTy).Contents (Elt F) → (⟨S448, .f32⟩ : BufTy).Contents (Elt F)),
   StableHlo.binary main_v6 main_v8 main_v9 ((fun a b => concatenate S1000448 0 [⟨S1000000, a⟩, ⟨S448, b⟩] concatenates_S1000000_S448_S1000448_d0) : (⟨S1000000, .f32⟩ : BufTy).Contents (Elt F) → (⟨S448, .f32⟩ : BufTy).Contents (Elt F) → (⟨S1000448, .f32⟩ : BufTy).Contents (Elt F))]

/-- The two results, cut out of the last kernel's output. -/
def opsC : List (HloOp τ sig (Elt F)) :=
  [StableHlo.unary main_v11 main_v12 ((extractStridedSlice S1x15 ![0, 0] · slices_S2x16_S1x15_0_0) : (⟨S2x16, .f32⟩ : BufTy).Contents (Elt F) → (⟨S1x15, .f32⟩ : BufTy).Contents (Elt F)),
   StableHlo.reshape main_v12 main_v13 (rfl : (.f32 : EltTy) = .f32) shapeCasts_S1x15_S15,
   StableHlo.unary main_v11 main_v14 ((extractStridedSlice S1x15 ![1, 0] · slices_S2x16_S1x15_1_0) : (⟨S2x16, .f32⟩ : BufTy).Contents (Elt F) → (⟨S1x15, .f32⟩ : BufTy).Contents (Elt F)),
   StableHlo.reshape main_v14 main_v15 (rfl : (.f32 : EltTy) = .f32) shapeCasts_S1x15_S15]

/-- A TensorCore kernel of @main as the SparseCore program calls it. -/
abbrev kcall (p : Fin 2) : Prog (TpuEff nD τ sig (Elt F) (SparseCore.Sig (ΛP (F := F)) 1) .tc) PUnit :=
  SparseCore.liftProg (Prog.lift (.customCall (Pipeline.entry p) ()))

/-- @main is those operations with the three calls between them. -/
theorem main_eq (d : Dev nD) : main (F := F) d = (StableHlo.seq opsA >>= fun _ => kcall 0 >>= fun _ => StableHlo.seq opsB >>= fun _ =>
    (K (F := F)).run d 0 >>= fun _ => kcall 1 >>= fun _ => StableHlo.seq opsC >>= fun _ => pure ⟨⟩) := by
  simp only [opsA, opsB, opsC, StableHlo.seq, bind_assoc, pure_bind]
  rfl

theorem opsA_sub : ∀ op ∈ opsA (F := F), op.bufs ⊆ ucRefs τ sig := fun op h => Pipeline.sub_ucRefs op (by revert op; simp [opsA])
theorem opsB_sub : ∀ op ∈ opsB (F := F), op.bufs ⊆ ucRefs τ sig := fun op h => Pipeline.sub_ucRefs op (by revert op; simp [opsB])
theorem opsC_sub : ∀ op ∈ opsC (F := F), op.bufs ⊆ ucRefs τ sig := fun op h => Pipeline.sub_ucRefs op (by revert op; simp [opsC])

theorem opsB_fresh : ∀ op ∈ opsB (F := F), op.fresh = ∅ := by
  simp only [opsB, List.forall_mem_cons, List.not_mem_nil, false_imp_iff, implies_true, and_true]
  repeat' first | rfl | refine ⟨?_, ?_⟩
theorem opsA_fresh : ∀ op ∈ opsA (F := F), op.fresh = ∅ := by
  simp only [opsA, List.forall_mem_cons, List.not_mem_nil, false_imp_iff, implies_true, and_true]
  repeat' first | rfl | refine ⟨?_, ?_⟩

theorem opsC_fresh : ∀ op ∈ opsC (F := F), op.fresh = ∅ := by
  simp only [opsC, List.forall_mem_cons, List.not_mem_nil, false_imp_iff, implies_true, and_true]
  repeat' first | rfl | refine ⟨?_, ?_⟩

/-! ## The buffers' contents after each part -/

section Vals

variable (m : (ℓ : Loc nD τ sig) → Buf (Elt F) ℓ)

/-- The first `main_arg0` and the rest, as launched; -/
def V0 (d : Dev nD) : Valuation τ sig (Elt F) := fun b => m (d, b)
/-- with the column of class numbers; -/
def VA (d : Dev nD) : Valuation τ sig (Elt F) := StableHlo.after opsA (V0 m d)
/-- with the confidence kernel's result; -/
def VB (d : Dev nD) : Valuation τ sig (Elt F) :=
  Function.update (VA m d) (Proc.devRef .tc main_v2) (confOf (at_ (VA m) d main_arg0) (at_ (VA m) d main_v1))
/-- with the padded arrays; -/
def VC (d : Dev nD) : Valuation τ sig (Elt F) := StableHlo.after opsB (VB m d)
/-- with the tiles' histograms; -/
def VD (d : Dev nD) : Valuation τ sig (Elt F) :=
  Function.update (VC m d) (Proc.devRef .tc main_v10) (rowsOf (at_ (VC m) d main_v5) (at_ (VC m) d main_v9))
/-- with the last kernel's result; -/
def VE (d : Dev nD) : Valuation τ sig (Elt F) :=
  Function.update (VD m d) (Proc.devRef .tc main_v11) (finOf (at_ (VD m) d main_v10))
/-- with the two results cut out of it. -/
def VF (d : Dev nD) : Valuation τ sig (Elt F) := StableHlo.after opsC (VE m d)

/-- The two arrays the SparseCore call reads. -/
abbrev pkA (d : Dev nD) : Vec F S1000448 .f32 := at_ (VC m) d main_v5
abbrev lbA (d : Dev nD) : Vec F S1000448 .f32 := at_ (VC m) d main_v9

/-! ## The two kernels' regions -/

/-- The two regions' proof data. -/
def pdats : (p : Fin 2) → (c : Dev nD) → Dat τ (Elt F) (HIx 1) ℕ UU ℕ (Pipeline.pin (pcfgs (F := F)) adm p) c
  | ⟨0, _⟩ => fun c => dat0 (VA m) c
  | ⟨1, _⟩ => fun c => dat2 (VD m) c

theorem upd_ne (V : Valuation τ sig (Elt F)) {y b : Ref sig .tc} (h : b ≠ y) (v) :
    Function.update V (Proc.devRef .tc y) v (Proc.devRef .tc b) = V (Proc.devRef .tc b) :=
  Function.update_of_ne (StableHlo.devRef_ne_of_ne h) _ _

theorem VB_ne (d : Dev nD) (b : Ref sig .tc) (h : b ≠ main_v2) : VB m d (Proc.devRef .tc b) = VA m d (Proc.devRef .tc b) := upd_ne _ h _
theorem VD_ne (d : Dev nD) (b : Ref sig .tc) (h : b ≠ main_v10) : VD m d (Proc.devRef .tc b) = VC m d (Proc.devRef .tc b) := upd_ne _ h _
theorem VE_ne (d : Dev nD) (b : Ref sig .tc) (h : b ≠ main_v11) : VE m d (Proc.devRef .tc b) = VD m d (Proc.devRef .tc b) := upd_ne _ h _

theorem VB_self (d : Dev nD) : VB m d (Proc.devRef .tc main_v2) = confOf (at_ (VA m) d main_arg0) (at_ (VA m) d main_v1) := by
  unfold VB; exact Function.update_self _ _ _
theorem VD_self (d : Dev nD) : VD m d (Proc.devRef .tc main_v10) = rowsOf (at_ (VC m) d main_v5) (at_ (VC m) d main_v9) := by
  unfold VD; exact Function.update_self _ _ _
theorem VE_self (d : Dev nD) : VE m d (Proc.devRef .tc main_v11) = finOf (at_ (VD m) d main_v10) := by
  unfold VE; exact Function.update_self _ _ _

/-- The confidence kernel's region. -/
def seg0 : Pipeline.RegionSeg (pcfgs (F := F)) adm (pdats m) none defs₀ 𝒱₀ (K (F := F)).L (K (F := F)).lev 0 :=
  seg 0 0 launch0 (VA m) (VB m) (pdats m) (fun _ _ => rfl) (fun _ _ => rfl) (fun _ _ => rfl) (fun _ _ => rfl) (fun _ _ => rfl) (body0 (VA m))
    (fun c w => by
      fin_cases w
      · exact ((dat0 (VA m) c).arrAt_in 0 rfl _).trans (VB_ne m c main_arg0 (by decide)).symm
      · exact ((dat0 (VA m) c).arrAt_in 1 rfl _).trans (VB_ne m c main_v1 (by decide)).symm
      · exact (arr0_2 (VA m) c).trans (VB_self m c).symm)
    (fun c b h => VB_ne m c b (h 2))

/-- The last kernel's region. -/
def seg2 : Pipeline.RegionSeg (pcfgs (F := F)) adm (pdats m) none defs₀ 𝒱₀ (K (F := F)).L (K (F := F)).lev 1 :=
  seg 1 1 launch2 (VD m) (VE m) (pdats m) (fun _ _ => rfl) (fun _ _ => rfl) (fun _ _ => rfl) (fun _ _ => rfl) (fun _ _ => rfl) (body2 (VD m))
    (fun c w => by
      fin_cases w
      · exact ((dat2 (VD m) c).arrAt_in 0 rfl _).trans (VE_ne m c main_v10 (by decide)).symm
      · exact (arr2_1 (VD m) c).trans (VE_self m c).symm)
    (fun c b h => VE_ne m c b (h 1))

/-- The TensorCore's thread state before SparseCore call `n`, without the tokens it owes. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) (n : ℕ) : ((K (F := F)).tcSt EH d n : sProp 𝕄)
    = iprop((∃ Wd, ⌜(K (F := F)).WBelow (T d) Wd (8 * n)⌝ ∗ owes (T d) ((K (F := F)).Otc d n) Wd) ∗ tcRest d n) := rfl

/-- A kernel's region inside @main: from the buffers at one valuation to the buffers at the next, the SparseCore
    thread state kept. -/
theorem wp_kcall (n : ℕ) (p : Fin 2) (V V' : Dev nD → Valuation τ sig (Elt F)) [∀ e, Nonempty (Elt F e)]
    (R : Pipeline.RegionSeg (pcfgs (F := F)) adm (pdats m) none defs₀ 𝒱₀ (K (F := F)).L (K (F := F)).lev p)
    (hpre : R.pre = regSt n V) (hpost : R.post = regSt n V') (d : Dev nD) (Φ : PUnit → sProp 𝕄) :
    iprop((iprop(boundary (T d) ∗ StableHlo.held (T d) (ucRefs τ sig) (V' d) ∗ (K (F := F)).tcSt EH d n) -∗ Φ ⟨⟩)
        ∗ boundary (T d) ∗ StableHlo.held (T d) (ucRefs τ sig) (V d) ∗ (K (F := F)).tcSt EH d n ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (T d) none) Set.univ (kcall p) Φ := by
  refine BI.Entails.trans ?_ ((K (F := F)).wp_liftProg (D (F := F)) 𝒱 (T d) Set.univ none _ Φ)
  refine BI.Entails.trans ?_ (Pipeline.RegionSeg.wp (pcfgs (F := F)) adm (pdats m) none cellOf_inj EP defs₀ 𝒱₀ (K (F := F)).L (K (F := F)).lev R d none
    (fun _ h => absurd h (Option.not_mem_none _)) (fun r => .ret r) Φ)
  rw [hpre, hpost, tcSt_eq]
  unfold regSt
  rw [Pipeline.unscopedBufs_held d (V d), Pipeline.unscopedBufs_held d (V' d)]
  show (_ : sProp 𝕄) ⊢ _
  iintro ⟨Hk, Hb, Hh, ⟨HO, Hr⟩, Hl, Hg, Ht⟩
  isplitl [Hk Hr]
  · iintro ⟨Hb, Hh, HO⟩
    rw [wp_ret]
    imodintro
    iapply Hk
    isplitl [Hb]; · iexact Hb
    isplitl [Hh]; · iexact Hh
    isplitl [HO]; · iexact HO
    iexact Hr
  isplitl [Hb]; · iexact Hb
  isplitl [Hh HO]
  · isplitl [Hh]; · iexact Hh
    iexact HO
  isplitl [Hl]; · iexact Hl
  isplitl [Hg]; · iexact Hg
  iexact Ht

/-! ## The SparseCore call -/

theorem chunks_disjoint : ∀ w ∈ (Finset.univ : Finset (Fin 32)), ∀ w' ∈ (Finset.univ : Finset (Fin 32)), w ≠ w' → Disjoint (chunkSet w) (chunkSet w') :=
  fun _ _ _ _ h => Rect.part_disjoint chunk_dvd h
theorem rows_disjoint : ∀ w ∈ (Finset.univ : Finset (Fin 32)), ∀ w' ∈ (Finset.univ : Finset (Fin 32)), w ≠ w' → Disjoint (rowSet w) (rowSet w') :=
  fun _ _ _ _ h => Rect.part_disjoint row_dvd h

theorem pk_chunks (d : Dev nD) (f : Vec F S1000448 .f32) :
    (pkLoc d ↦{fullShare} f : sProp 𝕄) = bigSep Finset.univ fun w : Fin 32 => pkLoc d ↦[chunkSet w]{fullShare} f := by
  rw [← pointsTo_biUnion Finset.univ (ℓ := pkLoc d) chunkSet chunks_disjoint, show Finset.univ.biUnion chunkSet = Finset.univ from Rect.biUnion_part chunk_dvd]
theorem lb_chunks (d : Dev nD) (f : Vec F S1000448 .f32) :
    (lbLoc d ↦{fullShare} f : sProp 𝕄) = bigSep Finset.univ fun w : Fin 32 => lbLoc d ↦[chunkSet w]{fullShare} f := by
  rw [← pointsTo_biUnion Finset.univ (ℓ := lbLoc d) chunkSet chunks_disjoint, show Finset.univ.biUnion chunkSet = Finset.univ from Rect.biUnion_part chunk_dvd]
theorem o_rows (d : Dev nD) (f : Vec F S32x48 .f32) :
    (oLoc d ↦{fullShare} f : sProp 𝕄) = bigSep Finset.univ fun w : Fin 32 => oLoc d ↦[rowSet w]{fullShare} f := by
  rw [← pointsTo_biUnion Finset.univ (ℓ := oLoc d) rowSet rows_disjoint, show Finset.univ.biUnion rowSet = Finset.univ from Rect.biUnion_part row_dvd]

/-- The tiles as the pairs of a core and a subcore. -/
def tileEquiv : Fin 2 × Fin 16 ≃ Fin 32 where
  toFun p := tileOf p.1 p.2
  invFun w := (⟨w.val / 16, by omega⟩, ⟨w.val % 16, by omega⟩)
  left_inv p := Prod.ext (Fin.ext (by show (16 * p.1.val + p.2.val) / 16 = _; omega)) (Fin.ext (by show (16 * p.1.val + p.2.val) % 16 = _; omega))
  right_inv w := Fin.ext (by show 16 * (w.val / 16) + w.val % 16 = _; omega)

theorem bigSep_tiles (Φ : Fin 32 → sProp 𝕄) :
    bigSep Finset.univ Φ = bigSep Finset.univ fun c : Fin 2 => bigSep Finset.univ fun i : Fin 16 => Φ (tileOf c i) := by
  rw [bigSep_univ_equiv tileEquiv, bigSep_univ_prod]; rfl

/-- The three arrays of the call. -/
def scRefs : Finset (DevRef τ sig) := {Proc.devRef .tc main_v5, Proc.devRef .tc main_v9, Proc.devRef .tc main_v10}

theorem held_scRefs (d : Dev nD) (V : Valuation τ sig (Elt F)) :
    (StableHlo.held (T d) scRefs V : sProp 𝕄)
      = iprop((pkLoc d ↦{fullShare} V (Proc.devRef .tc main_v5)) ∗ (lbLoc d ↦{fullShare} V (Proc.devRef .tc main_v9)) ∗ oLoc d ↦{fullShare} V (Proc.devRef .tc main_v10)) := by
  unfold StableHlo.held
  rw [bigSep_eq_bigSepL_of_eq [Proc.devRef .tc main_v5, Proc.devRef .tc main_v9, Proc.devRef .tc main_v10] (by decide) (by decide)]
  rfl

theorem scRefs_sub : scRefs ⊆ ucRefs τ sig := by decide

/-- The buffers after the second line of operations, the call's three arrays split off. -/
theorem split_VC (d : Dev nD) : (StableHlo.held (d.tc : Thread nD τ) (ucRefs τ sig) (StableHlo.after opsB (VB m d)) : sProp 𝕄)
    ⊢ iprop(StableHlo.held (T d) scRefs (VC m d) ∗ StableHlo.held (T d) (ucRefs τ sig \ scRefs) (VC m d)) :=
  Entails.of_eq (StableHlo.held_sub_split (T d) scRefs_sub (VC m d))

/-- The three arrays after the call, as the valuation after it has them; -/
theorem held_VD (d : Dev nD) : (iprop((pkLoc d ↦{fullShare} pkA m d) ∗ (lbLoc d ↦{fullShare} lbA m d) ∗ oLoc d ↦{fullShare} rowsOf (pkA m d) (lbA m d)) : sProp 𝕄)
    = StableHlo.held (T d) scRefs (VD m d) := by
  rw [held_scRefs, VD_ne m d main_v5 (by decide), VD_ne m d main_v9 (by decide), VD_self]

/-- the rest unchanged. -/
theorem rest_VD (d : Dev nD) : (StableHlo.held (T d) (ucRefs τ sig \ scRefs) (VC m d) : sProp 𝕄) = StableHlo.held (T d) (ucRefs τ sig \ scRefs) (VD m d) :=
  StableHlo.held_congr (T d) fun b hb => by
    have hne : b ≠ Proc.devRef .tc main_v10 := fun h => (Finset.mem_sdiff.mp hb).2 (by rw [h]; decide)
    unfold VD
    exact (Function.update_of_ne hne _ _).symm

/-- What the call takes: the three arrays. -/
theorem st_intro (d : Dev nD) (pk lb : (d : Dev nD) → Vec F S1000448 .f32) (o : Vec F S32x48 .f32) :
    iprop((pkLoc d ↦{fullShare} pk d) ∗ (lbLoc d ↦{fullShare} lb d) ∗ oLoc d ↦{fullShare} o)
      ⊢ (bigSep Finset.univ fun c : Fin ((K (F := F)).nCore 0) => (P pk lb).st 0 d c : sProp 𝕄) := by
  rw [pk_chunks, lb_chunks, o_rows, ← bigSep_sep', ← bigSep_sep']
  refine .trans ?_ (Entails.of_eq (bigSep_tiles (goPts pk lb d)))
  refine bigSep_mono fun w _ => ?_
  unfold goPts inPts
  show (_ : sProp 𝕄) ⊢ _
  iintro ⟨H1, H2, H3⟩
  isplitl [H1 H2]
  · isplitl [H1]; · iexact H1
    iexact H2
  iexists o; iexact H3

/-- What it brings back: the same, the third holding the histograms. -/
theorem dn_elim (d : Dev nD) (pk lb : (d : Dev nD) → Vec F S1000448 .f32) :
    (bigSep Finset.univ fun c : Fin ((K (F := F)).nCore 0) => (P pk lb).dn 0 d c : sProp 𝕄)
      ⊢ iprop((pkLoc d ↦{fullShare} pk d) ∗ (lbLoc d ↦{fullShare} lb d) ∗ oLoc d ↦{fullShare} rowsOf (pk d) (lb d)) := by
  rw [pk_chunks, lb_chunks, o_rows, ← bigSep_sep', ← bigSep_sep']
  refine (Entails.of_eq (bigSep_tiles (tdPts pk lb d)).symm).trans ?_
  refine bigSep_mono fun w _ => ?_
  unfold tdPts inPts
  show (_ : sProp 𝕄) ⊢ _
  iintro ⟨⟨H1, H2⟩, H3⟩
  isplitl [H1]; · iexact H1
  isplitl [H2]; · iexact H2
  iexact H3

/-! ## The launch -/

/-- The launch's ghost state: the handshakes' rounds and the pipelines'. -/
def u₀ : UU := (initOf (K (F := F)).hsCells (K (F := F)).hsToks,
  (initOf (Pipeline.cells (nD := nD) (τ := τ) cfgs cellOf_inj) (Pipeline.launchToks (nD := nD) (τ := τ) cfgs cellOf_inj), 1))

/-- The pipelines' ghost state of a device, dealt to its @main. -/
def G (d : Dev nD) : sProp 𝕄 :=
  iprop((bigSep Finset.univ fun p : Fin 2 => Pipeline.cellsGhost cfgs EP p d) ∗ bigSep Finset.univ fun p : Fin 2 => Pipeline.toksInit cfgs EP p d)

/-- The pipelines' rounds, out of the rest of the ghost state. -/
theorem own_EP (x : UR) (y : Counters) : (BI.own (embR (A := UH) (x, y)) : sProp 𝕄) ⊢ BI.own (EP x) := by
  refine .trans (own_pair_emb (embR : Emb (UR × Counters) 𝕄) x y) ?_
  show (_ : sProp 𝕄) ⊢ _
  iintro ⟨H, -⟩
  iexact H

/-- Nothing at every index is nothing. -/
theorem bigSep_emp' {I : Type} (s : Finset I) : (bigSep s fun _ => iprop(emp)) = (iprop(emp) : sProp 𝕄) := bigSep_emp_const s

theorem hu₀ (pk lb : (d : Dev nD) → Vec F S1000448 .f32) : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P pk lb).x q thr) := by
  rw [show (bigSep Finset.univ fun thr : Thread nD τ => bigSep Finset.univ fun q : Fin 1 => (P pk lb).x q thr) = (bigSep Finset.univ fun _ : Thread nD τ => iprop(emp) : sProp 𝕄) from
    bigSep_congr fun _ _ => bigSep_univ_of_subsingleton (0 : Fin 1), bigSep_emp']
  unfold u₀
  iintro Hu
  ihave H := (ownU_pair _ _) $$ Hu
  icases H with ⟨HH, HR⟩
  ihave HP := (own_EP _ _) $$ HR
  imod (Pipeline.fund_ghost cfgs EP cellOf_inj) $$ HP with ⟨Hg, Ht⟩
  imodintro
  isplitl [HH]; · iexact HH
  isplitl [Hg Ht]
  · unfold G
    rw [bigSep_sep']
    isplitl [Hg]; · iexact Hg
    iexact Ht
  iempintro

theorem G_eq (d : Dev nD) : (G d : sProp 𝕄)
    = iprop((Pipeline.cellsGhost cfgs EP 0 d ∗ Pipeline.cellsGhost cfgs EP 1 d) ∗ (Pipeline.toksInit cfgs EP 0 d ∗ Pipeline.toksInit cfgs EP 1 d)) := by
  unfold G
  rw [bigSep_univ_eq_bigSepL [0, 1] (by decide) (by decide), bigSep_univ_eq_bigSepL [0, 1] (by decide) (by decide)]
  rfl

/-- The device's buffers after @main. -/
abbrev FIN (d : Dev nD) : sProp 𝕄 := StableHlo.held (T d) (ucRefs τ sig) (VF m d)

variable [∀ e, Nonempty (Elt F e)]

theorem unscoped_V0 (d : Dev nD) : (unscopedBufs d (fun b => m ((SparseCore.T d).loc b)) : sProp 𝕄) = StableHlo.held (SparseCore.T d) (ucRefs τ sig) (V0 m d) :=
  Pipeline.unscopedBufs_held d (V0 m d)

/-- @main on device `d`'s TensorCore: from the buffers as launched to the buffers at the last valuation. -/
theorem hmain (ρ : Dev nD → PrngReg) (κ : GSem nD τ sig → ℕ) (d : Dev nD) :
    iprop((K (F := F)).ctx EH (P (pkA m) (lbA m)) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [main_eq, G_eq, unscoped_V0]
  iintro ⟨#Hctx, Hst, ⟨Hb, Hh, Hts, -⟩, ⟨Hg0, Hg1⟩, ⟨Ht0, Ht1⟩⟩
  ihave #Hlev := (SparseCore.Cfg.ctx_levAts κ) $$ Hctx
  iapply (StableHlo.wp_seq (bd := none) 𝒱 Set.univ d (ucRefs τ sig) _ opsA opsA_sub opsA_fresh (V0 m d)) $$ [Hb Hh]
  · isplitl [Hb]; · iexact Hb
    iexact Hh
  iintro ⟨Hb, Hh⟩
  simp only [wp_bind]
  iapply (wp_kcall m 0 0 (VA m) (VB m) (seg0 m) rfl rfl d _)
  isplitr [Hb Hh Hst Hg0 Ht0]; swap
  · isplitl [Hb]; · iexact Hb
    isplitl [Hh]; · iexact Hh
    isplitl [Hst]; · iexact Hst
    isplitr; · iexact Hlev
    isplitl [Hg0]; · iexact Hg0
    iexact Ht0
  iintro ⟨Hb, Hh, Hst⟩
  rw [← wp_bind]
  iapply (StableHlo.wp_seq (bd := none) 𝒱 Set.univ d (ucRefs τ sig) _ opsB opsB_sub opsB_fresh (VB m d)) $$ [Hb Hh]
  · isplitl [Hb]; · iexact Hb
    iexact Hh
  iintro ⟨Hb, Hh⟩
  simp only [wp_bind]
  ihave Hh := (split_VC m d) $$ Hh
  icases Hh with ⟨Hsc, Hrest⟩
  ihave Hsc := (Entails.of_eq (held_scRefs d (VC m d))) $$ Hsc
  iapply ((K (F := F)).wp_run (D (F := F)) 𝒱 (EH := EH) (P := P (pkA m) (lbA m)) κ d 0) $$ [Hst Hsc Hrest Hb Hts Hg1 Ht1]
  isplitr; · iexact Hctx
  isplitl [Hst]; · iexact Hst
  isplitl [Hsc]
  · iapply (st_intro d (pkA m) (lbA m)); iexact Hsc
  iintro ⟨Hst, Hdn⟩
  ihave Hsc := (dn_elim d (pkA m) (lbA m)) $$ Hdn
  ihave Hsc := (Entails.of_eq (held_VD m d)) $$ Hsc
  ihave Hrest := (Entails.of_eq (rest_VD m d)) $$ Hrest
  ihave Hh := (Entails.of_eq (StableHlo.held_sub_split (T d) scRefs_sub (VD m d)).symm) $$ [Hsc Hrest]
  · isplitl [Hsc]; · iexact Hsc
    iexact Hrest
  iapply (wp_kcall m 1 1 (VD m) (VE m) (seg2 m) rfl rfl d _)
  isplitr [Hb Hh Hst Hg1 Ht1]; swap
  · isplitl [Hb]; · iexact Hb
    isplitl [Hh]; · iexact Hh
    isplitl [Hst]; · iexact Hst
    isplitr; · iexact Hlev
    isplitl [Hg1]; · iexact Hg1
    iexact Ht1
  iintro ⟨Hb, Hh, Hst⟩
  rw [← wp_bind]
  iapply (StableHlo.wp_seq (bd := none) 𝒱 Set.univ d (ucRefs τ sig) _ opsC opsC_sub opsC_fresh (VE m d)) $$ [Hb Hh]
  · isplitl [Hb]; · iexact Hb
    iexact Hh
  iintro ⟨Hb, Hh⟩
  rw [wp_pure]
  imodintro
  isplitl [Hst]; · iexact Hst
  isplitl [Hh]; · iexact Hh
  isplitl [Hb]; · iexact Hb
  iexact Hts

/-! ## The run -/

/-- What the final memory holds: every buffer at the last valuation. -/
def fq (d : Dev nD) (s' : Phys nD τ sig (Elt F)) : Prop := ∀ b ∈ ucRefs τ sig, s'.mem.mem (d, b) = VF m d b

theorem hfin (d : Dev nD) (s' : Phys nD τ sig (Elt F)) : iprop(FIN m d ∗ SI s') ⊢ (⌜fq m d s'⌝ : sProp 𝕄) := by
  have key : ∀ b ∈ ucRefs τ sig, iprop(FIN m d ∗ SI s') ⊢ (⌜s'.mem.mem (d, b) = VF m d b⌝ : sProp 𝕄) := fun b hb => by
    unfold FIN StableHlo.held
    rw [SparseCore.bigSep_erase' hb]
    iintro ⟨⟨H, -⟩, HSI⟩
    ihave H := (SI_pointsTo_agree (st := s') (ℓ := (d, b)) (I := Finset.univ) (q := fullShare) (f := VF m d b)) $$ [HSI H]
    · isplitl [HSI] <;> iassumption
    icases H with %h
    ipureintro; exact funext fun i => h i (Finset.mem_univ i)
  exact (forall_intro fun b => (forall_intro fun hb => key b hb).trans pure_forall.2).trans pure_forall.2

end Vals

section Run

variable (m : (ℓ : Loc nD τ sig) → Buf (Elt F) ℓ) [∀ e, Nonempty (Elt F e)]

/-- The whole program's run: every unscoped buffer of every TensorCore ends at the last valuation, every semaphore at zero. -/
theorem run_main (ρ : Dev nD → PrngReg) :
    θ_run (Cert.KernelIdeal.defs (F := F)) (Cert.KernelIdeal.threads (F := F)) ⟨m, fun _ => 0, ρ⟩
      (fun r => (∀ d : Dev nD, ∀ b ∈ ucRefs τ sig, r.2.mem (d, b) = VF m d b) ∧ r.2.sem = fun _ => 0) :=
  SparseCore.Cfg.θ_run_sc_quiescent (K := K (F := F)) (D := D (F := F)) (𝒱 := 𝒱) (EH := EH) (P := P (pkA m) (lbA m)) (A := ∅) facts v₀
    (fun q hq => match q with | 0 => nomatch hq)
    (fun q _ => match q with | 0 => tileObl (pkA m) (lbA m))
    (fun q _ => match q with | 0 => SparseCore.Cfg.VecSplit.of_plain (vecSplit (pkA m) (lbA m)))
    m ρ main (fun d => G d) (FIN m) (u₀ (F := F)) (sep_elim_left.trans (hu₀ (pkA m) (lbA m))) (hmain m ρ) (fq m) (hfin m) _ (fun _ h hz => ⟨h, hz⟩)

end Run

end Cert.Proof.Hist

end
-- ==== Proof.Frames.lean ====
/-
  The frames of the kernel and of its idealization: the one run of the program, over any float values, with the
  values dropped.
-/
module

public import proofs.«01_k».proof.Proof.Main
public import proofs.«01_k».proof.Proof.Gen.Kernel

@[expose] public section

noncomputable section

namespace Cert.Proof.Hist

open Cert.KernelIdeal Cert.KernelIdeal.Gen
open Idealize.ShloMosaic
open Idealize.ShloMosaic.TcCoe
open Idealize.SL Idealize.SL.Sem
open Idealize.ShloMosaic.Pipeline (ucRefs)

variable {F : FTy → Type} [FloatOps F] [Named F]

/-- An argument array is written by no part of @main. -/
theorem VF_arg (m : (ℓ : Loc nD τ sig) → Buf (Elt F) ℓ) (d : Dev nD) (b : Ref sig .tc)
    (h : b ∉ [main_v0, main_v1, main_v2, main_cst, main_v3, main_v4, main_v5, main_v6, main_cst_0, main_v7, main_v8, main_v9, main_v10, main_v11, main_v12,
      main_v13, main_v14, main_v15]) : VF m d (Proc.devRef .tc b) = m (d, Proc.devRef .tc b) := by
  have hw : ∀ (l : List (Ref sig .tc)) (ops : List (HloOp τ sig (Elt F))) (V : Valuation τ sig (Elt F)), ops.map (·.writes) = l.map (fun r => {Proc.devRef (τ := τ) .tc r}) →
      b ∉ l → StableHlo.after ops V (Proc.devRef .tc b) = V (Proc.devRef .tc b) := fun l ops V e hb =>
    StableHlo.after_of_writes_sub ops V (StableHlo.forall_writes_sub_of_map e) hb
  simp only [List.mem_cons, List.not_mem_nil, or_false, not_or] at h
  obtain ⟨h0, h1, h2, hc, h3, h4, h5, h6, hc0, h7, h8, h9, h10, h11, h12, h13, h14, h15⟩ := h
  unfold VF
  rw [hw [main_v12, main_v13, main_v14, main_v15] opsC _ rfl (by simp [*]), VE_ne m d b h11, VD_ne m d b h10]
  unfold VC
  rw [hw [main_cst, main_v3, main_v4, main_v5, main_v6, main_cst_0, main_v7, main_v8, main_v9] opsB _ rfl (by simp [*]), VB_ne m d b h2]
  unfold VA
  rw [hw [main_v0, main_v1] opsA _ rfl (by simp [*])]
  rfl

/-- An array that is no staging buffer is one of those whose final contents the run names. -/
theorem mem_ucRefs (b : Ref sig .tc) (h : b.isScoped = false) : (Proc.devRef .tc b : DevRef τ sig) ∈ ucRefs τ sig :=
  Pipeline.devRef_mem_ucRefs h

/-- The program runs over any float values, ends with its arguments unchanged and every semaphore at zero. -/
theorem frame_any [∀ e, Nonempty (Elt F e)] (m : (ℓ : Loc nD τ sig) → Buf (Elt F) ℓ) (g : Dev nD → PrngReg) :
    θ_run (Cert.KernelIdeal.defs (F := F)) (Cert.KernelIdeal.threads (F := F)) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run Cert.KernelIdeal.defs _ _).mono (fun r h => ⟨fun c =>
    ⟨(h.1 c _ (mem_ucRefs main_arg0 rfl)).trans (VF_arg m c main_arg0 (by decide)), (h.1 c _ (mem_ucRefs main_arg1 rfl)).trans (VF_arg m c main_arg1 (by decide))⟩, h.2⟩)
    (run_main m g)

/-- The named constants read as the words the kernel was compiled with. -/
local instance namedBits : Named Bits := ⟨fun _ _ _ b => Scalar.ofBits _ b⟩

/-- With the named constants read as words the two programs' kernel functions are the same. -/
theorem defs₀_eq : Cert.Kernel.defs₀ (F := Bits) = Cert.KernelIdeal.defs₀ (F := Bits) := by
  funext p ℓ a
  obtain _ | _ | _ := p <;> obtain ⟨_ | _ | _ | n, h⟩ := ℓ <;> first | rfl | exact absurd h (by omega)

/-- So are their body tables. -/
theorem defs_eq : Cert.Kernel.defs (F := Bits) = Cert.KernelIdeal.defs (F := Bits) :=
  congrArg (fun D => Cert.KernelIdeal.sc.defs (Pipeline.defs Cert.KernelIdeal.pcfgs D)) defs₀_eq

/-- The kernel as compiled terminates, its arguments unchanged. -/
theorem frame_kernel : Cert.quiescent_Kernel := fun m g _ => by
  have h := frame_any (F := Bits) m g
  rw [← defs_eq] at h
  exact h

/-- The idealized kernel terminates, its arguments unchanged. -/
theorem frame_ideal : Cert.quiescent_KernelIdeal := fun m g _ => frame_any m g

/-- Each named threshold is the multiple of 1/15 it is named for. -/
theorem preserves : Cert.preserves_Kernel_KernelIdeal := by
  refine ⟨?_, ?_, ?_, ?_, ?_, ?_, ?_, ?_, ?_, ?_, ?_, ?_, ?_, ?_⟩ <;> exact IdealRules.named_const.statement _ _ _ _ _ rfl

end Cert.Proof.Hist

end
-- ==== Proof.Bins.lean ====
/-
  One packed value at the extended reals: the class and the confidence it carries, and the bin the histogram gives it.
-/
module

public import proofs.«01_k».proof.Proof.Setup
public import Idealize.ShloMosaic.Lib.Pointwise

@[expose] public section

noncomputable section

namespace Cert.Proof.Hist

open Cert.KernelIdeal Cert.KernelIdeal.Gen
open Idealize.ShloMosaic

/-! ## The constants -/

/-- The constant a packed value is multiplied by is a quarter. -/
theorem quarter : Ideal.ofBits .f32 1048576000#32 = ((1 / 4 : ℝ) : EReal) := by
  simp [Ideal.ofBits, Ideal.ieee, -EReal.coe_mul]; norm_num
/-- The constant a class is packed by is four. -/
theorem four : Ideal.ofBits .f32 1082130432#32 = ((4 : ℝ) : EReal) := by
  simp [Ideal.ofBits, Ideal.ieee, -EReal.coe_mul]; norm_num
/-- The pattern the maxima start from is the least extended real. -/
theorem least : Ideal.ofBits .f32 4286578688#32 = ⊥ := by
  simp [Ideal.ofBits, Ideal.ieee]

/-! ## The class and the confidence of a packed value -/

/-- The class a packed value carries: a quarter of it, truncated. -/
def cls (q : EReal) : EReal :=
  FloatOps.sitofp (F := Ideal) .f32 (FloatOps.fptosi (F := Ideal) (φ := .f32) 32 (q * Ideal.ofBits .f32 1048576000#32))

/-- The confidence a packed value carries: what four times its class leaves. -/
def rest (q : EReal) : EReal := q - cls q * Ideal.ofBits .f32 1082130432#32

/-- A class below a hundred and a confidence in [0, 1] packed together give the class back. -/
theorem cls_pack {k : ℕ} {c : ℝ} (hk : k < 100) (h0 : 0 ≤ c) (h1 : c ≤ 1) :
    cls ((4 * k + c : ℝ) : EReal) = ((k : ℝ) : EReal) := by
  have hf : ⌊(4 * (k : ℝ) + c) * (1 / 4)⌋ = (k : ℤ) := by
    rw [Int.floor_eq_iff]; push_cast; constructor <;> linarith
  have hp : (0 : ℝ) ≤ (4 * (k : ℝ) + c) * (1 / 4) := by positivity
  rw [cls, quarter, ← EReal.coe_mul]
  show (((Ideal.fptosi 32 _ : BitVec 32).toInt : ℝ) : EReal) = _
  rw [Ideal.fptosi, Ideal.toIntClamped_coe, if_pos hp, hf]
  have e : (BitVec.ofInt 32 (max (-((2 ^ (32 - 1) : ℕ) : ℤ)) (min (((2 ^ (32 - 1) : ℕ) : ℤ) - 1) (k : ℤ)))).toInt = (k : ℤ) := by
    rw [show max (-((2 ^ (32 - 1) : ℕ) : ℤ)) (min (((2 ^ (32 - 1) : ℕ) : ℤ) - 1) (k : ℤ)) = (k : ℤ) by
      norm_num; omega]
    rw [BitVec.toInt_ofInt, Int.bmod_def]; norm_num; omega
  rw [e]; norm_cast

/-- A class below a hundred and a confidence in [0, 1] packed together give the confidence back. -/
theorem rest_pack {k : ℕ} {c : ℝ} (hk : k < 100) (h0 : 0 ≤ c) (h1 : c ≤ 1) :
    rest ((4 * k + c : ℝ) : EReal) = (c : EReal) := by
  rw [rest, cls_pack hk h0 h1, four, ← EReal.coe_mul, ← EReal.coe_sub]
  congr 1; ring

/-! ## The bin of a confidence -/

/-- The lower end of bin `b`. -/
def edge (b : ℕ) : EReal := ((b / 15 : ℝ) : EReal)

/-- A confidence lies in bin `b`: above its lower end and not above its upper end. -/
def inb (b : ℕ) (c : EReal) : Prop := edge b < c ∧ c ≤ edge (b + 1)

/-- The bin's word: one less than the number of lower ends below the confidence. -/
def binw (c : EReal) : BitVec 32 :=
  (List.range 15).foldl (fun t b => IntOp.addi t (if edge b < c then 1#32 else 0#32)) 4294967295#32

/-- The words a vector of packed values is binned at are the bins of the confidences it carries. -/
theorem binOf_at (v : Vec Ideal S16 .f32) (j : Fin 16) : binOf (F := Ideal) v (ix1 j) = binw (rest (v (ix1 j))) := by
  pointwise [binOf, k1_pay10, k1_pay15, k1_pay5, k1_pay7, k1_pay4, k1_pay8, k1_pay9, k1_pay16, k1_pay11]
  rw [IdealRules.named_const.ideal_named_scalar _ "b1" _ _ rfl, IdealRules.named_const.ideal_named_scalar _ "b2" _ _ rfl,
    IdealRules.named_const.ideal_named_scalar _ "b3" _ _ rfl, IdealRules.named_const.ideal_named_scalar _ "b4" _ _ rfl,
    IdealRules.named_const.ideal_named_scalar _ "b5" _ _ rfl, IdealRules.named_const.ideal_named_scalar _ "b6" _ _ rfl,
    IdealRules.named_const.ideal_named_scalar _ "b7" _ _ rfl, IdealRules.named_const.ideal_named_scalar _ "b8" _ _ rfl,
    IdealRules.named_const.ideal_named_scalar _ "b9" _ _ rfl, IdealRules.named_const.ideal_named_scalar _ "b10" _ _ rfl,
    IdealRules.named_const.ideal_named_scalar _ "b11" _ _ rfl, IdealRules.named_const.ideal_named_scalar _ "b12" _ _ rfl,
    IdealRules.named_const.ideal_named_scalar _ "b13" _ _ rfl, IdealRules.named_const.ideal_named_scalar _ "b14" _ _ rfl]
  have e : v (ix1 j) - FloatOps.sitofp (F := Ideal) .f32 (FloatOps.fptosi (F := Ideal) (φ := .f32) 32 (v (ix1 j) * Ideal.ofBits .f32 1048576000#32))
      * Ideal.ofBits .f32 1082130432#32 = rest (v (ix1 j)) := rfl
  rw [e]
  simp only [binw, edge, List.range, List.range.loop, List.foldl]
  norm_num

/-- A confidence in [0, 1] lies above some number of the lower ends, the first ones. -/
theorem exists_above {c : ℝ} (h0 : 0 ≤ c) (h1 : c ≤ 1) : ∃ n ≤ 15, ∀ b : ℕ, b ≤ 15 → (edge b < (c : EReal) ↔ b < n) := by
  refine ⟨⌈15 * c⌉₊, Nat.ceil_le.2 (by push_cast; linarith), fun b _ => ?_⟩
  rw [edge, EReal.coe_lt_coe_iff, Nat.lt_ceil, div_lt_iff₀ (by norm_num)]
  constructor <;> intro h <;> linarith

/-- The bin's word of a confidence in [0, 1], masked to four bits, is `b` below fifteen exactly where the confidence lies in bin `b`. -/
theorem slot_iff {c : ℝ} (h0 : 0 ≤ c) (h1 : c ≤ 1) {b : ℕ} (hb : b < 15) :
    (binw (c : EReal) &&& 15#32).toNat = b ↔ inb b (c : EReal) := by
  obtain ⟨n, hn, h⟩ := exists_above h0 h1
  have e : binw (c : EReal) = BitVec.ofNat 32 n + 4294967295#32 := by
    have t : ∀ b, b ∈ List.range 15 → (if edge b < (c : EReal) then 1#32 else 0#32) = if b < n then 1#32 else 0#32 := fun b hb => by
      have := h b (by have := List.mem_range.1 hb; omega)
      by_cases hbn : b < n
      · rw [if_pos hbn, if_pos (this.2 hbn)]
      · rw [if_neg hbn, if_neg (mt this.1 hbn)]
    rw [binw, List.foldl_ext _ (fun t b => IntOp.addi t (if b < n then 1#32 else 0#32)) _ (fun a b hb => by rw [t b hb])]
    clear h t
    interval_cases n <;> decide
  rw [inb, ← not_lt, h b (by omega), h (b + 1) (by omega), e]
  have : (BitVec.ofNat 32 n + 4294967295#32 &&& 15#32).toNat = if n = 0 then 15 else n - 1 := by
    clear h e; interval_cases n <;> decide
  rw [this]
  split <;> omega

end Cert.Proof.Hist

end
-- ==== Proof.Scatter.lean ====
/-
  The histograms of a tile at the extended reals: each word is the sum, over the groups, of what its lane adds to its bin;
  and what a tile writes out is the sum of that over the lanes.
-/
module

public import proofs.«01_k».proof.Proof.Bins

@[expose] public section

noncomputable section

namespace Cert.Proof.Hist

open Cert.KernelIdeal Cert.KernelIdeal.Gen
open Idealize.ShloMosaic

/-- The index at a position, in the vocabulary of the library's readings. -/
theorem pos_eq {n : ℕ} (k : Fin n) : (pos k : (⟨1, ![n]⟩ : Shape).Idx) = ix1 k := by
  funext a
  obtain rfl := Fin.eq_zero a
  rfl

/-- Adding at some places, one list element after another, adds at each place the sum of what the elements there bring. -/
theorem foldl_add {ι J : Type} (l : List ι) (p : ι → J → Prop) [∀ k j, Decidable (p k j)] (u : ι → EReal) (f : J → EReal) (j : J) :
    l.foldl (fun g k j => if p k j then g j + u k else g j) f j = f j + (l.map fun k => if p k j then u k else 0).sum := by
  induction l generalizing f with
  | nil => simp
  | cons k l ih =>
    rw [List.foldl_cons, ih, List.map_cons, List.sum_cons, ← add_assoc]
    congr 1
    split <;> simp

/-- Word `16 r + b` of a histogram. -/
def word (r b : Fin 16) : S256.Idx := pos (n := 256) ⟨16 * r.val + b.val, by omega⟩

/-- The bin a packed value is added to. -/
def slot (q : EReal) : ℕ := (binw (rest q) &&& 15#32).toNat

/-- A group added to a histogram adds, at lane `r`'s word of bin `b`, the lane's element where its bin is `b`. -/
theorem addAt_word (h : Vec Ideal S256 .f32) (v u : Vec Ideal S16 .f32) (r b : Fin 16) :
    addAt h v u (word r b) = (h (word r b) : EReal) + if slot (v (ix1 r)) = b.val then (u (ix1 r) : EReal) else 0 := by
  have e : addAt h v u = (List.finRange 16).foldl
      (fun (g : S256.Idx → EReal) (k : Fin 16) j => if (j 0).val = (idxOf v (pos k)).toNat then g j + (u (pos k) : EReal) else g j) h := by
    rw [addAt, storeIdx]
    refine List.foldl_ext _ _ _ fun g (k : Fin 16) _ => ?_
    funext j
    refine (congrFun (if_pos rfl) j).trans ?_
    by_cases hj : (j 0).val = (idxOf v (pos k)).toNat
    · have hi : idxAt ![idxOf v] (chk v).1 (pos k) = j := by
        funext a
        obtain rfl : a = 0 := Subsingleton.elim _ _
        exact Fin.ext hj.symm
      rw [if_pos hj]
      refine (if_pos fun a => ?_).trans ?_
      · exact (congrArg (fun i : S256.Idx => (i a).val) hi).symm
      · exact congrArg (fun i => (g i : EReal) + (u (pos k) : EReal)) hi
    · rw [if_neg hj]
      exact if_neg fun c => hj (c 0)
  rw [e, foldl_add, ← Fin.sum_univ_def]
  congr 1
  have hw : ∀ k : Fin 16, (idxOf v (pos k)).toNat = slot (v (ix1 k)) + 16 * k.val ∧ slot (v (ix1 k)) < 16 := fun k => by
    rw [idxOf_apply, pos_eq, binOf_at]
    exact word_lt _ k.val k.isLt
  have hb : (word r b 0).val = 16 * r.val + b.val := rfl
  rw [Finset.sum_eq_single r]
  · rw [(hw r).1, hb, pos_eq]
    exact if_congr (by omega) rfl rfl
  · intro k _ hk
    refine if_neg fun c => hk ?_
    rw [(hw k).1, hb] at c
    have := (hw k).2
    exact Fin.ext (by omega)
  · intro c; exact absurd (Finset.mem_univ r) c

/-- The element at a position of a one-axis array, zero past its end. -/
def ext {N : ℕ} (f : Vec Ideal ⟨1, ![N]⟩ .f32) (n : ℕ) : EReal := if h : n < N then f (ix1 ⟨n, h⟩) else 0

/-- What the element at a position adds to bin `b`: its value `u` where its bin is `b`. -/
def term (u : EReal → EReal → EReal) (b : ℕ) (q l : EReal) : EReal := if slot q = b then u q l else 0

/-- What an element counts for: one. -/
def uCnt : EReal → EReal → EReal := fun _ _ => 1
/-- What an element adds to the confidences: its confidence. -/
def uCnf : EReal → EReal → EReal := fun q _ => rest q
/-- What an element adds to the hits: one where its class is its label. -/
def uAcc : EReal → EReal → EReal := fun q l => if cls q = l then 1 else 0

theorem trips_eq : k1_t1_loop.trips = 1954 := by decide

/-- Lane `r` of group `t` is the element at position `16 t + r`. -/
theorem grp_at (f : Vec Ideal S31264 .f32) (t : Fin k1_t1_loop.trips) (r : Fin 16) :
    grp f t (ix1 r) = ext (N := 31264) f (16 * t.val + r.val) := by
  have ht : t.val < 1954 := trips_eq ▸ t.isLt
  rw [ext, dif_pos (by omega)]
  show f _ = f _
  congr 1
  funext (a : Fin 1)
  obtain rfl := Fin.eq_zero a
  refine Fin.ext ?_
  show k1_off2 t 0 + 1 * r.val = 16 * t.val + r.val
  rw [k1_off2_eq, one_mul]
  rfl

theorem zeros_at (x : S256.Idx) : zeros (F := Ideal) x = (0 : EReal) := Ideal.ofBits_zero_f32

/-- What the group's first update adds: one. -/
theorem cnt_at (v w : Vec Ideal S16 .f32) (r : Fin 16) : k1_pay14 (F := Ideal) (ix1 r) = uCnt (v (ix1 r)) (w (ix1 r)) := by
  pointwise [k1_pay14]
  try rfl
/-- What the group's second update adds: the confidence. -/
theorem cnf_at (v w : Vec Ideal S16 .f32) (r : Fin 16) : k1_pay5 v (ix1 r) = uCnf (v (ix1 r)) (w (ix1 r)) := by
  pointwise [k1_pay5, k1_pay4]
  try rfl
/-- What the group's third update adds: one where the class is the label. -/
theorem acc_at (v w : Vec Ideal S16 .f32) (r : Fin 16) : k1_pay6 k1_pay12 k1_pay14 v w (ix1 r) = uAcc (v (ix1 r)) (w (ix1 r)) := by
  pointwise [k1_pay6, k1_pay12, k1_pay14, k1_pay4]
  try rfl

/-- The words of the three histograms before trip `k`: the sums over the groups before it. -/
theorem hists_at (P Q : Vec Ideal S31264 .f32) (r b : Fin 16) (k : ℕ) (hk : k ≤ 1954) :
    let s := fun u => ∑ g ∈ Finset.range k, term u b.val (ext (N := 31264) P (16 * g + r.val)) (ext (N := 31264) Q (16 * g + r.val))
    (hists P Q k).1 (word r b) = s uCnt ∧ (hists P Q k).2.1 (word r b) = s uCnf ∧ (hists P Q k).2.2 (word r b) = s uAcc := by
  induction k with
  | zero => exact ⟨zeros_at (word r b), zeros_at (word r b), zeros_at (word r b)⟩
  | succ k ih =>
    obtain ⟨h1, h2, h3⟩ := ih (by omega)
    have hk' : k < k1_t1_loop.trips := by rw [trips_eq]; omega
    have e := hists_succ P Q ⟨k, hk'⟩
    dsimp only at e ⊢
    rw [e]
    simp only [step, Finset.sum_range_succ]
    rw [addAt_word, addAt_word, addAt_word, h1, h2, h3]
    simp only [← grp_at _ ⟨k, hk'⟩]
    exact ⟨congrArg₂ (· + ·) rfl (if_congr Iff.rfl (cnt_at _ _ r) rfl), congrArg₂ (· + ·) rfl (if_congr Iff.rfl (cnf_at _ _ r) rfl),
      congrArg₂ (· + ·) rfl (if_congr Iff.rfl (acc_at _ _ r) rfl)⟩

/-- The sixteen lanes of a histogram added up. -/
theorem red_at (h : Vec Ideal S256 .f32) (b : Fin 16) : red h (pos b) = ∑ r : Fin 16, (h (word r b) : EReal) := by
  simp only [Fin.sum_univ_castSucc, Fin.sum_univ_zero, zero_add]
  rfl

/-- Bin `b`'s sum of `u` over a tile's stretch of 31264 positions. -/
def tileSum (u : EReal → EReal → EReal) (b : ℕ) (P Q : Vec Ideal S31264 .f32) : EReal :=
  ∑ r : Fin 16, ∑ g ∈ Finset.range 1954, term u b (ext (N := 31264) P (16 * g + r.val)) (ext (N := 31264) Q (16 * g + r.val))

/-- What a tile writes out: its counts, its confidence sums, its hit sums. -/
theorem outOf_at (P Q : Vec Ideal S31264 .f32) (b : Fin 16) :
    outOf (hists P Q k1_t1_loop.trips) (pos (n := 48) ⟨b.val, by omega⟩) = tileSum uCnt b.val P Q
    ∧ outOf (hists P Q k1_t1_loop.trips) (pos (n := 48) ⟨16 + b.val, by omega⟩) = tileSum uCnf b.val P Q
    ∧ outOf (hists P Q k1_t1_loop.trips) (pos (n := 48) ⟨32 + b.val, by omega⟩) = tileSum uAcc b.val P Q := by
  have hs := fun r => hists_at P Q r b 1954 le_rfl
  rw [trips_eq]
  refine ⟨?_, ?_, ?_⟩
  · have h0 : b.val < 16 := b.isLt
    refine (dif_pos h0).trans ((red_at _ b).trans (Finset.sum_congr rfl fun r _ => (hs r).1))
  · have h0 : ¬ 16 + b.val < 16 := by omega
    have h1 : 16 + b.val < 32 := by omega
    refine (dif_neg h0).trans ((dif_pos h1).trans ?_)
    have e : (⟨16 + b.val - 16, by omega⟩ : Fin 16) = b := Fin.ext (by simp)
    exact (congrArg (fun k => red _ (pos k)) e).trans ((red_at _ b).trans (Finset.sum_congr rfl fun r _ => (hs r).2.1))
  · have h0 : ¬ 32 + b.val < 16 := by omega
    have h1 : ¬ 32 + b.val < 32 := by omega
    refine (dif_neg h0).trans ((dif_neg h1).trans ?_)
    have e : (⟨32 + b.val - 32, by omega⟩ : Fin 16) = b := Fin.ext (by simp)
    exact (congrArg (fun k => red _ (pos k)) e).trans ((red_at _ b).trans (Finset.sum_congr rfl fun r _ => (hs r).2.2))

end Cert.Proof.Hist

end
-- ==== Proof.Total.lean ====
/-
  The histogram call and the last kernel together at the extended reals: each bin's mean is a quotient of sums over all
  the positions of the packed array.
-/
module

public import proofs.«01_k».proof.Proof.Scatter
public import proofs.«01_k».proof.Proof.Regions

@[expose] public section

noncomputable section

namespace Cert.Proof.Hist

open Cert.KernelIdeal Cert.KernelIdeal.Gen
open Idealize.ShloMosaic

theorem ix2_eq {a b : ℕ} (i : Fin a) (j : Fin b) : (ix2 i j : (⟨2, ![a, b]⟩ : Shape).Idx) = Idealize.ShloMosaic.ix2 i j := by
  funext k
  match k with
  | 0 => rfl
  | 1 => rfl

theorem ix3_eq {a b c : ℕ} (i : Fin a) (j : Fin b) (k : Fin c) : (ix3 i j k : (⟨3, ![a, b, c]⟩ : Shape).Idx) = Idealize.ShloMosaic.ix3 i j k := by
  funext n
  match n with
  | 0 => rfl
  | 1 => rfl
  | 2 => rfl

/-- A sum over the positions of `m` stretches of `n` is the sum over the stretches of the sums over each. -/
theorem sum_stretches (f : ℕ → EReal) {N : ℕ} (m n : ℕ) (h : N = m * n) :
    ∑ k ∈ Finset.range N, f k = ∑ w ∈ Finset.range m, ∑ i ∈ Finset.range n, f (n * w + i) := by
  subst h
  induction m with
  | zero => simp
  | succ m ih => rw [Nat.succ_mul, Finset.sum_range_add, ih, Finset.sum_range_succ, Nat.mul_comm m n]

/-- Bin `b`'s sum of `u` over all the positions. -/
def allSum (u : EReal → EReal → EReal) (b : ℕ) (A L : Vec Ideal S1000448 .f32) : EReal :=
  ∑ n ∈ Finset.range 1000448, term u b (ext (N := 1000448) A n) (ext (N := 1000448) L n)

/-- A tile's stretch of an array, at a position of it. -/
theorem ext_chunk (f : Vec Ideal S1000448 .f32) (w : Fin 32) {n : ℕ} (hn : n < 31264) :
    ext (N := 31264) (chunkOf f w) n = ext (N := 1000448) f (31264 * w.val + n) := by
  rw [ext, dif_pos hn, ext, dif_pos (by omega)]
  show f (pos _) = _
  rw [pos_eq]
  rfl

/-- The tiles' sums of a bin add up to the sum over all the positions. -/
theorem sum_tiles (u : EReal → EReal → EReal) (b : ℕ) (A L : Vec Ideal S1000448 .f32) :
    ∑ w : Fin 32, tileSum u b (chunkOf A w) (chunkOf L w) = allSum u b A L := by
  rw [allSum, sum_stretches _ 32 31264 rfl, Finset.sum_range]
  refine Finset.sum_congr rfl fun w _ => ?_
  rw [sum_stretches _ 1954 16 rfl, tileSum, Finset.sum_comm]
  refine Finset.sum_congr rfl fun g hg => ?_
  rw [Finset.sum_range]
  refine Finset.sum_congr rfl fun r _ => ?_
  have := Finset.mem_range.1 hg
  have hr := r.isLt
  rw [ext_chunk _ _ (by omega), ext_chunk _ _ (by omega)]

/-- A bin's mean: its sum over its count, zero in an empty bin. -/
def quot (n s : EReal) : EReal := if 0 < n then Ideal.div s (max n 1) else 0

/-- The last kernel's first row: the counts and the second stretch of the rows' sums. -/
theorem pay5_at (v : Vec Ideal S32x48 .f32) (j : Fin 16) :
    k2_pay5 (F := Ideal) v (Idealize.ShloMosaic.ix2 0 j)
      = quot (∑ w : Fin 32, v (Idealize.ShloMosaic.ix2 w ⟨j.val, by omega⟩)) (∑ w : Fin 32, v (Idealize.ShloMosaic.ix2 w ⟨16 + j.val, by omega⟩)) := by
  pointwise [k2_pay5, k2_pay4, k2_pay3, k2_pay2, k2_pay1]
  rfl

/-- The last kernel's second row: the counts and the third stretch of the rows' sums. -/
theorem pay6_at (v : Vec Ideal S32x48 .f32) (j : Fin 16) :
    k2_pay6 (F := Ideal) v (Idealize.ShloMosaic.ix2 0 j)
      = quot (∑ w : Fin 32, v (Idealize.ShloMosaic.ix2 w ⟨j.val, by omega⟩)) (∑ w : Fin 32, v (Idealize.ShloMosaic.ix2 w ⟨32 + j.val, by omega⟩)) := by
  pointwise [k2_pay6, k2_pay4, k2_pay3, k2_pay2, k2_pay1]
  rfl

/-- The rows' sums at each bin: the counts, the confidence sums, the hit sums over all the positions. -/
theorem rows_at (A L : Vec Ideal S1000448 .f32) (b : Fin 16) :
    (∑ w : Fin 32, (rowsOf A L (Idealize.ShloMosaic.ix2 w ⟨b.val, by omega⟩) : EReal)) = allSum uCnt b.val A L
    ∧ (∑ w : Fin 32, (rowsOf A L (Idealize.ShloMosaic.ix2 w ⟨16 + b.val, by omega⟩) : EReal)) = allSum uCnf b.val A L
    ∧ (∑ w : Fin 32, (rowsOf A L (Idealize.ShloMosaic.ix2 w ⟨32 + b.val, by omega⟩) : EReal)) = allSum uAcc b.val A L := by
  have h := fun w : Fin 32 => outOf_at (chunkOf A w) (chunkOf L w) b
  refine ⟨?_, ?_, ?_⟩ <;> rw [← sum_tiles]
  · exact Finset.sum_congr rfl fun w _ => (h w).1
  · exact Finset.sum_congr rfl fun w _ => (h w).2.1
  · exact Finset.sum_congr rfl fun w _ => (h w).2.2

/-- What the last kernel leaves of the histogram call's rows: the mean confidences and the mean accuracies. -/
theorem fin_at (A L : Vec Ideal S1000448 .f32) (b : Fin 16) :
    finOf (rowsOf A L) (Idealize.ShloMosaic.ix2 0 b) = quot (allSum uCnt b.val A L) (allSum uCnf b.val A L)
    ∧ finOf (rowsOf A L) (Idealize.ShloMosaic.ix2 1 b) = quot (allSum uCnt b.val A L) (allSum uAcc b.val A L) := by
  obtain ⟨h1, h2, h3⟩ := rows_at A L b
  constructor
  · refine (if_pos rfl).trans ?_
    exact ((congrArg (k2_pay5 _) (ix2_eq (a := 1) 0 b)).trans (pay5_at _ b)).trans (congrArg₂ quot h1 h2)
  · refine (if_neg one_ne_zero).trans ?_
    exact ((congrArg (k2_pay6 _) (ix2_eq (a := 1) 0 b)).trans (pay6_at _ b)).trans (congrArg₂ quot h1 h3)

end Cert.Proof.Hist

end
-- ==== Proof.Row.lean ====
/-
  One row of logits at the extended reals: the kernel's packed value of it against the reference's softmax of it,
  where one column alone holds the row's greatest logit.
-/
module

public import proofs.«01_k».proof.Proof.Bins

@[expose] public section

noncomputable section

namespace Cert.Proof.Hist

open Cert.KernelIdeal Cert.KernelIdeal.Gen
open Idealize.ShloMosaic

/-- A sum of reals is the sum of them as extended reals. -/
theorem coe_sum {ι : Type} (s : Finset ι) (f : ι → ℝ) : ((∑ i ∈ s, f i : ℝ) : EReal) = ∑ i ∈ s, (f i : EReal) :=
  map_sum ({ toFun := Real.toEReal, map_zero' := rfl, map_add' := EReal.coe_add } : ℝ →+ EReal) f s

/-- The greatest of a row's values, from the least extended real. -/
def top (x : Fin 100 → EReal) : EReal := Finset.univ.fold max (Ideal.ofBits .f32 4286578688#32) x

/-- A value that no other column exceeds is the greatest. -/
theorem top_eq {x : Fin 100 → EReal} {k : Fin 100} (h : ∀ j, x j ≤ x k) : top x = x k := by
  rw [top, least]
  refine le_antisymm (Finset.fold_max_le _ |>.2 ⟨bot_le, fun j _ => h j⟩) ?_
  exact Finset.le_fold_max _ |>.2 (Or.inr ⟨k, Finset.mem_univ k, le_rfl⟩)

/-- Every value is at most the greatest. -/
theorem le_top' (x : Fin 100 → EReal) (j : Fin 100) : x j ≤ top x :=
  Finset.le_fold_max _ |>.2 (Or.inr ⟨j, Finset.mem_univ j, le_rfl⟩)

/-- The kernel's confidence of a row: the greatest exponential over the sum of the exponentials. -/
def conf (x : Fin 100 → EReal) : EReal := Ideal.div (top fun j => Ideal.exp (x j)) (∑ j, Ideal.exp (x j))

/-- The kernel's packed value of a row: four times the sum of the columns holding the greatest exponential, plus the confidence. -/
def pack (x : Fin 100 → EReal) : EReal :=
  (∑ j : Fin 100, (if Ideal.exp (x j) = top (fun j => Ideal.exp (x j)) then (1 : EReal) else 0) * ((j.val : ℝ) : EReal)) * Ideal.ofBits .f32 1082130432#32
    + conf x

/-- The reference's softmax of a row. -/
def smax (x : Fin 100 → EReal) (j : Fin 100) : EReal :=
  Ideal.div (Ideal.exp (x j - max ⊥ (top x))) (∑ j, Ideal.exp (x j - max ⊥ (top x)))

theorem exp_strictMono : StrictMono Ideal.exp := by
  intro a b h
  induction a with
  | bot =>
    induction b with
    | bot => exact absurd h (lt_irrefl _)
    | coe b => rw [Ideal.exp_bot, Ideal.exp_coe]; exact_mod_cast Real.exp_pos b
    | top => exact EReal.zero_lt_top
  | coe a =>
    induction b with
    | bot => exact absurd h (not_lt.2 bot_le)
    | coe b => rw [Ideal.exp_coe, Ideal.exp_coe]; exact_mod_cast Real.exp_lt_exp.2 (by exact_mod_cast h)
    | top => exact EReal.coe_lt_top _
  | top => exact absurd h (not_lt.2 le_top)

section
variable {x : Fin 100 → EReal} {k : Fin 100} (hk : ∀ j, j ≠ k → x j < x k)
include hk

theorem le_of_unique (j : Fin 100) : x j ≤ x k := by
  by_cases h : j = k
  · rw [h]
  · exact (hk j h).le

/-- With column `k` alone greatest, the packed value is four times `k` plus the confidence. -/
theorem pack_eq : pack x = ((4 * (k.val : ℝ) : ℝ) : EReal) + conf x := by
  have ht : top (fun j => Ideal.exp (x j)) = Ideal.exp (x k) :=
    top_eq (k := k) fun j => exp_strictMono.monotone (le_of_unique hk j)
  have hs : (∑ j : Fin 100, (if Ideal.exp (x j) = Ideal.exp (x k) then (1 : EReal) else 0) * ((j.val : ℝ) : EReal)) = ((k.val : ℝ) : EReal) := by
    rw [Finset.sum_eq_single k]
    · simp
    · intro j _ hj
      rw [if_neg (exp_strictMono.injective.ne (hk j hj).ne), zero_mul]
    · simp
  rw [pack, ht]
  rw [hs, four, ← EReal.coe_mul, mul_comm]

/-- A row whose greatest logit is infinite has confidence zero in the kernel, and no confidence in the reference. -/
theorem row_top (h : x k = ⊤) : conf x = 0 ∧ ∀ j, smax x j = ⊥ := by
  have ht : top (fun j => Ideal.exp (x j)) = ⊤ := by
    rw [top_eq (k := k) fun j => exp_strictMono.monotone (le_of_unique hk j), h]; rfl
  have hm : top x = ⊤ := by rw [top_eq (le_of_unique hk), h]
  have hs : (∑ j, Ideal.exp (x j)) = ⊤ := by
    refine top_le_iff.1 ?_
    have := Finset.single_le_sum (f := fun j => Ideal.exp (x j)) (s := Finset.univ) (fun j _ => ?_) (Finset.mem_univ k)
    · rw [h, Ideal.exp_top] at this; exact this
    · rw [← Ideal.exp_bot]; exact exp_strictMono.monotone bot_le
  constructor
  · rw [conf, ht, hs, Ideal.div, if_neg (by simp)]; simp
  · intro j
    have e : ∀ j, Ideal.exp (x j - max ⊥ (top x)) = 0 := fun j => by
      rw [hm]; simp
    rw [smax, e, Finset.sum_congr rfl fun j _ => e j, Ideal.div]
    simp

/-- A row whose greatest logit is real has the reference's softmax at that column, greater than at any other, as its confidence,
    a real number between 0 and 1. -/
theorem row_real {m : ℝ} (h : x k = (m : EReal)) :
    ∃ c : ℝ, 0 ≤ c ∧ c ≤ 1 ∧ conf x = (c : EReal) ∧ smax x k = (c : EReal) ∧ ∀ j, j ≠ k → ⊥ < smax x j ∧ smax x j < (c : EReal) := by
  have hm : max ⊥ (top x) = (m : EReal) := by rw [top_eq (le_of_unique hk), h, max_eq_right bot_le]
  have hy : ∀ j, ∃ y : ℝ, 0 ≤ y ∧ Ideal.exp (x j) = (y : EReal) ∧ Ideal.exp (x j - (m : EReal)) = ((y * Real.exp (-m) : ℝ) : EReal) := by
    intro j
    have hl := le_of_unique hk j
    rw [h] at hl
    induction hx : x j with
    | bot => exact ⟨0, le_rfl, by simp, by simp⟩
    | coe r =>
      refine ⟨Real.exp r, (Real.exp_pos _).le, rfl, ?_⟩
      rw [← EReal.coe_sub, Ideal.exp_coe, ← Real.exp_add, sub_eq_add_neg]
    | top => rw [hx] at hl; exact absurd hl (by simp)
  choose y hy0 hy1 hy2 using hy
  have hyk : y k = Real.exp m := by
    have := hy1 k; rw [h, Ideal.exp_coe] at this; exact_mod_cast this.symm
  have hpos : 0 < y k := hyk ▸ Real.exp_pos m
  have hlt : ∀ j, j ≠ k → y j < y k := fun j hj => by
    have := exp_strictMono (hk j hj); rw [hy1, hy1] at this; exact_mod_cast this
  have hle : ∀ j, y j ≤ y k := fun j => by
    by_cases hj : j = k
    · rw [hj]
    · exact (hlt j hj).le
  have hS : y k ≤ ∑ j, y j := Finset.single_le_sum (fun j _ => hy0 j) (Finset.mem_univ k)
  have hS0 : 0 < ∑ j, y j := lt_of_lt_of_le hpos hS
  have he : 0 < Real.exp (-m) := Real.exp_pos _
  have s1 : (∑ j, Ideal.exp (x j)) = ((∑ j, y j : ℝ) : EReal) := by
    rw [coe_sum]; exact Finset.sum_congr rfl fun j _ => hy1 j
  have s2 : (∑ j, Ideal.exp (x j - max ⊥ (top x))) = (((∑ j, y j) * Real.exp (-m) : ℝ) : EReal) := by
    rw [Finset.sum_mul, coe_sum, hm]; exact Finset.sum_congr rfl fun j _ => hy2 j
  have sm : ∀ j, smax x j = ((y j / ∑ j, y j : ℝ) : EReal) := fun j => by
    rw [smax, s2, hm, hy2, Ideal.div_coe (by positivity), ← EReal.coe_mul]
    congr 1; field_simp
  refine ⟨y k / ∑ j, y j, by positivity, (div_le_one hS0).2 hS, ?_, sm k, fun j hj => ?_⟩
  · rw [conf, top_eq (k := k) fun j => exp_strictMono.monotone (le_of_unique hk j), s1, hy1, Ideal.div_coe hS0.ne', ← EReal.coe_mul]
    congr 1; ring
  · rw [sm]
    exact ⟨EReal.bot_lt_coe _, by exact_mod_cast div_lt_div_of_pos_right (hlt j hj) hS0⟩

end

end Cert.Proof.Hist

end
-- ==== Proof.KernelValue.lean ====
/-
  The kernel's two results at the extended reals, as functions of its arguments: each bin's mean over the packed values
  of the rows and the labels.
-/
module

public import proofs.«01_k».proof.Proof.Total
public import proofs.«01_k».proof.Proof.Row
public import proofs.«01_k».proof.Proof.Main

@[expose] public section

noncomputable section

namespace Cert.Proof.Hist

open Cert.KernelIdeal Cert.KernelIdeal.Gen
open Idealize.ShloMosaic Idealize.ShloMosaic.TcCoe Idealize.SL.Sem Idealize.ShloMosaic.StableHlo

/-! ## The arrays, as the host operations leave them -/

section Host
variable {F : FTy → Type} [FloatOps F] [Named F] (m : (ℓ : Loc nD τ sig) → Buf (Elt F) ℓ) (d : Dev nD)

/-- The column of class numbers. -/
def classes : Vec F S100x1 .f32 := shapeCast S100x1 (sitofp .f32 (iotaInDim S100 32 0) : FVec F S100 .f32) shapeCasts_S100_S100x1

/-- The packed array: the rows' packed values, then zeros. -/
def packed (X : Vec F S1000000x100 .f32) : Vec F S1000448 .f32 :=
  concatenate S1000448 0 [⟨S1000000, shapeCast S1000000 (confOf X classes) shapeCasts_S250x1x4000_S1000000⟩,
    ⟨S448, broadcastInDim S448 ![] bcast_S_S448 (constant S_ .f32 0x00000000#32)⟩] concatenates_S1000000_S448_S1000448_d0

/-- The labels as numbers, then ones. -/
def labels (Y : IVec S1000000 32) : Vec F S1000448 .f32 :=
  concatenate S1000448 0 [⟨S1000000, (sitofp .f32 Y : FVec F S1000000 .f32)⟩,
    ⟨S448, addf (broadcastInDim S448 ![] bcast_S_S448 (constant S_ .f32 0x00000000#32)) (broadcastInDim S448 ![] bcast_S_S448 (constant S_ .f32 0x3F800000#32))⟩]
    concatenates_S1000000_S448_S1000448_d0

/-- The first row's bins of the last kernel's result. -/
def cut0 (f : Vec F S2x16 .f32) : Vec F S15 .f32 := shapeCast S15 (extractStridedSlice S1x15 ![0, 0] f slices_S2x16_S1x15_0_0) shapeCasts_S1x15_S15
/-- The second row's bins of the last kernel's result. -/
def cut1 (f : Vec F S2x16 .f32) : Vec F S15 .f32 := shapeCast S15 (extractStridedSlice S1x15 ![1, 0] f slices_S2x16_S1x15_1_0) shapeCasts_S1x15_S15

theorem VA_arg0 : VA m d (Proc.devRef .tc main_arg0) = m (d, Proc.devRef .tc main_arg0) := by
  unfold VA opsA
  after_results_simp <;> rfl
theorem VA_arg1 : VA m d (Proc.devRef .tc main_arg1) = m (d, Proc.devRef .tc main_arg1) := by
  unfold VA opsA
  after_results_simp <;> rfl
theorem VA_v1 : VA m d (Proc.devRef .tc main_v1) = classes (F := F) := by
  unfold VA opsA
  after_results_simp <;> rfl

theorem VC_v5 : at_ (VC m) d main_v5 = packed (m (d, Proc.devRef .tc main_arg0)) := by
  have h : VC m d (Proc.devRef .tc main_v5) = concatenate S1000448 0 [⟨S1000000, shapeCast S1000000 (VB m d (Proc.devRef .tc main_v2)) shapeCasts_S250x1x4000_S1000000⟩,
      ⟨S448, broadcastInDim S448 ![] bcast_S_S448 (constant (F := F) S_ .f32 0x00000000#32)⟩] concatenates_S1000000_S448_S1000448_d0 := by
    unfold VC opsB
    after_results_simp <;> rfl
  have h2 : VB m d (Proc.devRef .tc main_v2) = confOf (m (d, Proc.devRef .tc main_arg0)) classes :=
    (VB_self m d).trans (congrArg₂ confOf (VA_arg0 m d) (VA_v1 m d))
  refine h.trans ?_
  rw [h2]
  rfl

theorem VC_v9 : at_ (VC m) d main_v9 = labels (m (d, Proc.devRef .tc main_arg1)) := by
  have h : VC m d (Proc.devRef .tc main_v9) = labels (VB m d (Proc.devRef .tc main_arg1)) := by
    unfold VC opsB
    after_results_simp <;> rfl
  refine h.trans (congrArg labels ?_)
  exact (VB_ne m d main_arg1 (by decide)).trans (VA_arg1 m d)

/-- The last kernel's result, as a function of the arguments. -/
theorem VE_v11 : VE m d (Proc.devRef .tc main_v11) = finOf (rowsOf (packed (m (d, Proc.devRef .tc main_arg0))) (labels (m (d, Proc.devRef .tc main_arg1)))) :=
  (VE_self m d).trans (congrArg finOf ((VD_self m d).trans (congrArg₂ rowsOf (VC_v5 m d) (VC_v9 m d))))

theorem VF_v13 : VF m d (Proc.devRef .tc main_v13) = cut0 (VE m d (Proc.devRef .tc main_v11)) := by
  unfold VF opsC
  after_results_simp <;> rfl
theorem VF_v15 : VF m d (Proc.devRef .tc main_v15) = cut1 (VE m d (Proc.devRef .tc main_v11)) := by
  unfold VF opsC
  after_results_simp <;> rfl
end Host

/-! ## Their elements at the extended reals -/

/-- A row of the logits. -/
def rowOf (X : Vec Ideal S1000000x100 .f32) (i : Fin 1000000) : Fin 100 → EReal := fun j => X (Idealize.ShloMosaic.ix2 i j)

/-- The column of class numbers holds each class's number. -/
theorem classes_at (j : Fin 100) : classes (F := Ideal) (Idealize.ShloMosaic.ix2 j 0) = ((j.val : ℝ) : EReal) := by
  pointwise [classes]
  have e : (BitVec.ofNat 32 j.val).toInt = (j.val : ℤ) := by
    have := j.isLt
    rw [BitVec.toInt_eq_toNat_of_lt (by rw [BitVec.toNat_ofNat]; omega), BitVec.toNat_ofNat]; omega
  show (((BitVec.ofNat 32 j.val).toInt : ℝ) : EReal) = _
  rw [e]; norm_cast

theorem cut0_at (f : Vec Ideal S2x16 .f32) (b : Fin 15) : cut0 f (ix1 b) = f (Idealize.ShloMosaic.ix2 0 ⟨b.val, by omega⟩) := by
  pointwise [cut0]
theorem cut1_at (f : Vec Ideal S2x16 .f32) (b : Fin 15) : cut1 f (ix1 b) = f (Idealize.ShloMosaic.ix2 1 ⟨b.val, by omega⟩) := by
  pointwise [cut1]

/-- The confidence kernel's result at a row of a block: the row's packed value. -/
theorem pay_at (v : Vec Ideal S4000x100 .f32) (r : Fin 4000) :
    k0_pay1 v classes (Idealize.ShloMosaic.ix3 0 0 r) = pack fun j => v (Idealize.ShloMosaic.ix2 r j) := by
  pointwise [k0_pay1]
  simp only [classes_at]
  rfl

/-- The packed array: the rows' packed values, then zeros. -/
theorem packed_at (X : Vec Ideal S1000000x100 .f32) (n : Fin 1000448) : packed X (ix1 n) = if h : n.val < 1000000 then pack (rowOf X ⟨n.val, h⟩) else 0 := by
  pointwise [packed]
  by_cases h : n.val < 1000000
  · rw [dif_pos h, dif_pos h]
    refine ((congrArg (k0_pay1 _ classes) (ix3_eq (a := 1) (b := 1) (c := 4000) 0 0 ⟨n.val % 4000, Nat.mod_lt _ (by norm_num)⟩)).trans (pay_at _ _)).trans (congrArg pack (funext fun j => ?_))
    refine congrArg X ((ix2_eq (a := 1000000) (b := 100) _ _).trans (congrArg (fun i => Idealize.ShloMosaic.ix2 i j) (Fin.ext ?_)))
    exact Nat.div_add_mod n.val 4000
  · rw [dif_neg h, dif_neg h]

/-- The labels as numbers, then ones. -/
theorem labels_at (Y : IVec S1000000 32) (n : Fin 1000448) : labels (F := Ideal) Y (ix1 n) = if h : n.val < 1000000 then (((Y (ix1 ⟨n.val, h⟩)).toInt : ℝ) : EReal) else 1 := by
  pointwise [labels]
  rfl

end Cert.Proof.Hist

end
-- ==== Proof.RefValue.lean ====
/-
  The reference's two results at the extended reals: each bin's mean over the rows whose softmax's greatest value lies in
  the bin.
-/
module

public import proofs.«01_k».proof.Proof.Reference
public import proofs.«01_k».proof.Proof.Total
public import proofs.«01_k».proof.Proof.Row

@[expose] public section

noncomputable section

namespace Cert.Proof.Ref

open Cert.ReferenceIdeal Cert.ReferenceIdeal.Gen Idealize.ShloMosaic
open Cert.Proof.Hist (edge inb top smax quot)

/-- A row of the logits. -/
def row (X : FVec Ideal S1000000x100 .f32) (i : Fin 1000000) : Fin 100 → EReal := fun j => X (Idealize.ShloMosaic.ix2 i j)

/-- The points of the reference's linspace are the bins' ends. -/
theorem points_at (k : Fin 16) : points (F := Ideal) (ix1 k) = edge k.val := by
  have f : Ideal.ofBits .f32 1097859072#32 = ((15 : ℝ) : EReal) := by
    simp [Ideal.ofBits, Ideal.ieee, -EReal.coe_mul]; norm_num
  pointwise [points, join, frac]
  split
  · rw [f, zero_mul, zero_add, Ideal.div_coe (by norm_num)]
    have e : (BitVec.ofNat 32 k.val).toInt = (k.val : ℤ) := by
      have := k.isLt
      rw [BitVec.toInt_eq_toNat_of_lt (by rw [BitVec.toNat_ofNat]; omega), BitVec.toNat_ofNat]; omega
    show (((BitVec.ofNat 32 k.val).toInt : ℝ) : EReal) * _ = _
    rw [e, ← EReal.coe_mul, edge]
    congr 1
    push_cast; ring
  · have : k.val = 15 := by omega
    rw [edge, this]; norm_num

/-! ## The softmax -/

/-- A row's greatest entry. -/
theorem rowMax_at (X : FVec Ideal S1000000x100 .f32) (i : Fin 1000000) : rowMax X (ix1 i) = top (row X i) := by
  pointwise [rowMax]
  rfl

/-- A row's sum. -/
theorem rowSum_at (Z : FVec Ideal S1000000x100 .f32) (i : Fin 1000000) :
    Host.reduceAdd Z (constant S_ .f32 0x00000000#32) reducesTo_S1000000x100_S1000000_d1 h_S_ (ix1 i) = ∑ j : Fin 100, Z (Idealize.ShloMosaic.ix2 i j) := by
  pointwise []

/-- Exponentials of the entries less a number of their row, at an entry. -/
theorem expSub_at (X : FVec Ideal S1000000x100 .f32) (M : FVec Ideal S1000000 .f32) (i : Fin 1000000) (j : Fin 100) :
    Host.exp (subf X (spread M)) (Idealize.ShloMosaic.ix2 i j) = Ideal.exp (X (Idealize.ShloMosaic.ix2 i j) - M (ix1 i)) := by
  pointwise [spread]

/-- The greater of the least extended real and a row's number. -/
theorem maxLeast_at (R : FVec Ideal S1000000 .f32) (i : Fin 1000000) :
    maximumf (broadcastInDim S1000000 ![] bcast_S_S1000000 (constant S_ .f32 0xFF800000#32)) R (ix1 i) = max ⊥ (R (ix1 i)) := by
  pointwise []
  rw [Hist.least]

/-- Entries over a number of their row, at an entry. -/
theorem divSpread_at (E : FVec Ideal S1000000x100 .f32) (M : FVec Ideal S1000000 .f32) (i : Fin 1000000) (j : Fin 100) :
    Host.divf E (spread M) (Idealize.ShloMosaic.ix2 i j) = Ideal.div (E (Idealize.ShloMosaic.ix2 i j)) (M (ix1 i)) := by
  pointwise [spread]

/-- The exponentials the softmax is made of. -/
theorem expo_at (X : FVec Ideal S1000000x100 .f32) (i : Fin 1000000) (j : Fin 100) :
    expo X (Idealize.ShloMosaic.ix2 i j) = Ideal.exp (row X i j - max ⊥ (top (row X i))) := by
  rw [expo, expSub_at, maxLeast_at, rowMax_at]
  rfl

/-- The softmax of a row. -/
theorem soft_at (X : FVec Ideal S1000000x100 .f32) (i : Fin 1000000) (j : Fin 100) : soft X (Idealize.ShloMosaic.ix2 i j) = smax (row X i) j := by
  rw [soft, divSpread_at, rowSum_at, expo_at, Finset.sum_congr rfl fun j _ => expo_at X i j]
  rfl

/-- A row's confidence: the greatest of its softmax. -/
theorem conf_at (X : FVec Ideal S1000000x100 .f32) (i : Fin 1000000) : rowMax (soft X) (ix1 i) = top (smax (row X i)) := by
  rw [rowMax_at]
  exact congrArg top (funext fun j => soft_at X i j)

/-! ## The predicted class -/

/-- The argmax's step keeps a pair against one of a smaller value. -/
theorem reducer_keep {p q : EReal × BitVec 32} (h : q.1 < p.1 ∨ q = p) : reducer_argmax_f32_i32 (F := Ideal) p q = p := by
  obtain ⟨a, b⟩ := p
  obtain ⟨c, d⟩ := q
  rcases h with h | h
  · have h : c < a := h
    have o : ∀ x : BitVec 1, 1#1 ||| x = 1#1 := by decide
    simp [reducer_argmax_f32_i32, Ideal.cmpf_def, Ideal.cmp, h, Scalar.select, IntOp.ori, o]
  · obtain ⟨rfl, rfl⟩ := Prod.mk.inj h
    simp [reducer_argmax_f32_i32, Ideal.cmpf_def, Ideal.cmp, Scalar.select, IntOp.ori]

/-- The argmax's step takes a pair of a greater value. -/
theorem reducer_take {p q : EReal × BitVec 32} (h : q.1 < p.1) : reducer_argmax_f32_i32 (F := Ideal) q p = p := by
  obtain ⟨a, b⟩ := p
  obtain ⟨c, d⟩ := q
  have h : c < a := h
  simp [reducer_argmax_f32_i32, Ideal.cmpf_def, Ideal.cmp, h.not_gt, h.ne, Scalar.select, IntOp.ori, IntOp.andi]

/-- Folding the argmax's step over pairs of which one alone is greatest ends with that pair. -/
theorem foldl_argmax (p : EReal × BitVec 32) (l : List (EReal × BitVec 32)) (hl : ∀ q ∈ l, q.1 < p.1 ∨ q = p) (a : EReal × BitVec 32)
    (ha : a = p ∨ a.1 < p.1 ∧ p ∈ l) : l.foldl (reducer_argmax_f32_i32 (F := Ideal)) a = p := by
  induction l generalizing a with
  | nil =>
    rcases ha with ha | ha
    · exact ha
    · exact absurd ha.2 List.not_mem_nil
  | cons q l ih =>
    rw [List.foldl_cons]
    refine ih (fun r hr => hl r (List.mem_cons_of_mem _ hr)) _ ?_
    rcases ha with rfl | ⟨ha, hm⟩
    · exact Or.inl (reducer_keep (hl q List.mem_cons_self))
    · rcases hl q List.mem_cons_self with hq | rfl
      · refine Or.inr ⟨?_, (List.mem_cons.1 hm).resolve_left fun e => absurd hq (by rw [e]; exact lt_irrefl _)⟩
        obtain ⟨a1, a2⟩ := a
        obtain ⟨q1, q2⟩ := q
        have ha : a1 < p.1 := ha
        have hq : q1 < p.1 := hq
        simp only [reducer_argmax_f32_i32, Scalar.select]
        split <;> assumption
      · exact Or.inl (reducer_take ha)

/-- The argmax of a row of which one column alone is greatest is that column. -/
theorem argmax_at (Z : FVec Ideal S1000000x100 .f32) (i : Fin 1000000) (k : Fin 100) (h0 : ⊥ < row Z i k) (h : ∀ j, j ≠ k → row Z i j < row Z i k) :
    (Host.argReduce reducer_argmax_f32_i32 Z (iotaInDim S1000000x100 32 1) (constant S_ .f32 0xFF800000#32) (constantI S_ 32 0#32)
      reducesTo_S1000000x100_S1000000_d1 h_S_ (ix1 i)).2 = BitVec.ofNat 32 k.val := by
  rw [Ideal.argReduce_eq_reduce2, Host.reduce2_eq_foldl_fiber]
  have hf : ∀ y, reducesTo_S1000000x100_S1000000_d1.drop y = ix1 i ↔ ∃ j : Fin 100, Idealize.ShloMosaic.ix2 i j = y := fun y =>
    Shape.ReducesTo.fiber_r2_a1 reducesTo_S1000000x100_S1000000_d1 (ix1 i) y
  have hp : ∀ q, q ∈ Host.argReduceFiber Z (iotaInDim S1000000x100 32 1) reducesTo_S1000000x100_S1000000_d1 (ix1 i)
      ↔ ∃ j : Fin 100, q = (row Z i j, BitVec.ofNat 32 j.val) := fun q => by
    simp only [Host.argReduceFiber, List.mem_map, List.mem_filter, List.mem_finRange, true_and, decide_eq_true_eq]
    constructor
    · rintro ⟨n, hn, rfl⟩
      obtain ⟨j, hj⟩ := (hf _).1 hn
      exact ⟨j, by rw [← hj]; rfl⟩
    · rintro ⟨j, rfl⟩
      refine ⟨S1000000x100.rowMajor (Idealize.ShloMosaic.ix2 i j), ?_, ?_⟩
      · rw [Equiv.symm_apply_apply]; exact (hf _).2 ⟨j, rfl⟩
      · rw [Equiv.symm_apply_apply]; rfl
  rw [foldl_argmax (row Z i k, BitVec.ofNat 32 k.val)]
  · intro q hq
    obtain ⟨j, rfl⟩ := (hp q).1 hq
    by_cases hj : j = k
    · exact Or.inr (by rw [hj])
    · exact Or.inl (h j hj)
  · refine Or.inr ⟨?_, (hp _).2 ⟨k, rfl⟩⟩
    show Ideal.ofBits .f32 4286578688#32 < _
    rw [Hist.least]
    exact h0

/-- The predicted classes are the argmax of the softmax. -/
theorem pred_eq (X : FVec Ideal S1000000x100 .f32) : pred X = fun j => (Host.argReduce reducer_argmax_f32_i32 (soft X) (iotaInDim S1000000x100 32 1)
    (constant S_ .f32 0xFF800000#32) (constantI S_ 32 0#32) reducesTo_S1000000x100_S1000000_d1 h_S_ j).2 := rfl

/-- The predicted class of a row of whose softmax one column alone is greatest is that column. -/
theorem pred_at (X : FVec Ideal S1000000x100 .f32) (i : Fin 1000000) (k : Fin 100) (h0 : ⊥ < smax (row X i) k)
    (h : ∀ j, j ≠ k → smax (row X i) j < smax (row X i) k) : pred X (ix1 i) = BitVec.ofNat 32 k.val := by
  have e : row (soft X) i = smax (row X i) := funext fun j => soft_at X i j
  exact (congrFun (pred_eq X) (ix1 i)).trans (argmax_at (soft X) i k (by rw [e]; exact h0) (by rw [e]; exact h))

/-- Equality of two words, as a number. -/
theorem uitofp_eq (p q : BitVec 32) : FloatOps.uitofp (F := Ideal) .f32 (IntOp.cmpi .eq p q) = if p = q then (1 : EReal) else 0 := by
  show (((BitVec.ofBool (p == q)).toNat : ℝ) : EReal) = _
  by_cases h : p = q
  · simp [h]
  · simp [h]

/-- A row's hit. -/
theorem hits_at (X : FVec Ideal S1000000x100 .f32) (Y : IVec S1000000 32) (i : Fin 1000000) :
    hits X Y (ix1 i) = if pred X (ix1 i) = Y (ix1 i) then (1 : EReal) else 0 := by
  exact uitofp_eq _ _

/-! ## The bins -/

/-- Whether a number lies in a bin is decided by two comparisons. -/
instance (b : ℕ) (c : EReal) : Decidable (inb b c) := by unfold inb; infer_instance

/-- One where a confidence lies in a bin, zero elsewhere. -/
def ind (b : ℕ) (c : EReal) : EReal := if inb b c then 1 else 0

/-- The indicator the reference computes, of the bin's ends. -/
theorem ind_eq (b : Fin 15) (c : EReal) :
    FloatOps.uitofp (F := Ideal) .f32 (IntOp.andi (BitVec.ofBool (decide (points (F := Ideal) (ix1 ⟨b.val, by omega⟩) < c)))
      (BitVec.ofBool (decide (c ≤ points (F := Ideal) (ix1 ⟨1 + b.val, by omega⟩))))) = ind b.val c := by
  rw [points_at, points_at, ind]
  simp only [inb]
  show (((IntOp.andi (BitVec.ofBool (decide (edge b.val < c))) (BitVec.ofBool (decide (c ≤ edge (1 + b.val))))).toNat : ℝ) : EReal) = _
  rw [Nat.add_comm 1]
  by_cases h1 : edge b.val < c <;> by_cases h2 : c ≤ edge (b.val + 1) <;> simp [h1, h2, IntOp.andi]

/-- A bin's mean: the sum over the rows in it over their number, zero in an empty bin. -/
theorem mean_at (C x : FVec Ideal S1000000 .f32) (b : Fin 15) :
    mean C x (ix1 b) = quot (∑ i : Fin 1000000, ind b.val (C (ix1 i))) (∑ i : Fin 1000000, ind b.val (C (ix1 i)) * x (ix1 i)) := by
  pointwise [mean, total, lit, inBin, perRow, perBin, lows, ups]
  simp only [ind_eq]
  rfl

end Cert.Proof.Ref

end
-- ==== Proof.Agree.lean ====
/-
  The kernel's sums over the packed values are the reference's sums over the rows, where each row has one maximum alone.
-/
module

public import proofs.«01_k».proof.Proof.KernelValue
public import proofs.«01_k».proof.Proof.RefValue

@[expose] public section

noncomputable section

namespace Cert.Proof.Hist

open Cert.KernelIdeal Cert.KernelIdeal.Gen Idealize.ShloMosaic
open Cert.Proof.Ref (ind)

/-! ## One row -/

/-- What a row of one maximum alone, in column `k`, packs: `k` and a confidence `c` of the unit interval. The reference's
    confidence is `c` and its softmax is greatest in column `k` alone, unless both count the row in no bin. -/
theorem row_facts {x : Fin 100 → EReal} {k : Fin 100} (hk : ∀ j, j ≠ k → x j < x k) :
    ∃ c : ℝ, 0 ≤ c ∧ c ≤ 1 ∧ pack x = ((4 * (k.val : ℝ) + c : ℝ) : EReal) ∧
      (c = 0 ∧ top (smax x) = ⊥ ∨ top (smax x) = (c : EReal) ∧ ⊥ < smax x k ∧ ∀ j, j ≠ k → smax x j < smax x k) := by
  have hp := pack_eq hk
  induction hx : x k with
  | bot =>
    obtain ⟨j, hj⟩ : ∃ j : Fin 100, j ≠ k := exists_ne k
    exact absurd (hx ▸ hk j hj) not_lt_bot
  | top =>
    obtain ⟨h0, hs⟩ := row_top hk hx
    refine ⟨0, le_rfl, zero_le_one, by rw [hp, h0]; simp, Or.inl ⟨rfl, ?_⟩⟩
    rw [top_eq (k := k) fun j => by rw [hs, hs], hs]
  | coe m =>
    obtain ⟨c, h0, h1, hc, hs, hj⟩ := row_real hk hx
    refine ⟨c, h0, h1, by rw [hp, hc, ← EReal.coe_add], Or.inr ⟨?_, ?_, fun j h => by rw [hs]; exact (hj j h).2⟩⟩
    · rw [top_eq (k := k) fun j => ?_, hs]
      by_cases h : j = k
      · rw [h]
      · rw [hs]; exact (hj j h).2.le
    · obtain ⟨j, h⟩ : ∃ j : Fin 100, j ≠ k := exists_ne k
      rw [hs]; exact (hj j h).1.trans (hj j h).2

/-- No bin holds zero: a bin's lower end is not below it. -/
theorem not_inb_zero (b : ℕ) : ¬ inb b ((0 : ℝ) : EReal) := fun h => absurd h.1 (by
  rw [edge, EReal.coe_lt_coe_iff, not_lt]; positivity)

/-- No bin holds the least extended real. -/
theorem not_inb_bot (b : ℕ) : ¬ inb b ⊥ := fun h => not_lt_bot h.1

/-- What a packed value adds to a bin: its value where its confidence lies in the bin. -/
theorem term_pack (u : EReal → EReal → EReal) {b k : ℕ} (hb : b < 15) (hk : k < 100) {c : ℝ} (h0 : 0 ≤ c) (h1 : c ≤ 1) (l : EReal) :
    term u b ((4 * (k : ℝ) + c : ℝ) : EReal) l = if inb b (c : EReal) then u ((4 * (k : ℝ) + c : ℝ) : EReal) l else 0 := by
  rw [term, slot, rest_pack hk h0 h1]
  simp only [slot_iff h0 h1 hb]

/-- The places after the rows add to no bin. -/
theorem term_pad (u : EReal → EReal → EReal) {b : ℕ} (hb : b < 15) (l : EReal) : term u b 0 l = 0 := by
  have h := term_pack u hb (k := 0) (by norm_num) le_rfl zero_le_one l
  rw [if_neg (not_inb_zero b)] at h
  simpa using h

/-- A class is its label as a number where it is as a word. -/
theorem label_eq (k : Fin 100) (w : BitVec 32) : ((k.val : ℝ) : EReal) = ((w.toInt : ℝ) : EReal) ↔ BitVec.ofNat 32 k.val = w := by
  have e : (BitVec.ofNat 32 k.val).toInt = (k.val : ℤ) := by
    have := k.isLt
    rw [BitVec.toInt_eq_toNat_of_lt (by rw [BitVec.toNat_ofNat]; omega), BitVec.toNat_ofNat]; omega
  rw [EReal.coe_eq_coe_iff, ← BitVec.toInt_inj, e]
  norm_cast

/-- What a row adds to a bin, in the kernel and in the reference: to the count, to the confidences, to the hits. -/
theorem row_agree (X : FVec Ideal S1000000x100 .f32) (Y : IVec S1000000 32) (i : Fin 1000000) {b : ℕ} (hb : b < 15)
    (h : ∃ k : Fin 100, ∀ j, j ≠ k → rowOf X i j < rowOf X i k) :
    let C := Ref.rowMax (Ref.soft X) (ix1 i)
    let t := fun u => term u b (pack (rowOf X i)) (((Y (ix1 i)).toInt : ℝ) : EReal)
    t uCnt = ind b C ∧ t uCnf = ind b C * C ∧ t uAcc = ind b C * Ref.hits X Y (ix1 i) := by
  obtain ⟨k, hk⟩ := h
  obtain ⟨c, h0, h1, hp, hc⟩ := row_facts hk
  have ht := fun u => term_pack u hb k.isLt h0 h1 (((Y (ix1 i)).toInt : ℝ) : EReal)
  have hC : Ref.rowMax (Ref.soft X) (ix1 i) = top (smax (rowOf X i)) := Ref.conf_at X i
  simp only [hp, ht, hC]
  rcases hc with ⟨rfl, e⟩ | ⟨e, hb0, hj⟩
  · simp only [e, ind, if_neg (not_inb_zero b), if_neg (not_inb_bot b), zero_mul, and_self]
  · have hh : Ref.hits X Y (ix1 i) = if BitVec.ofNat 32 k.val = Y (ix1 i) then (1 : EReal) else 0 := by
      rw [Ref.hits_at, Ref.pred_at X i k hb0 hj]
    rw [e, hh]
    simp only [ind, uCnt, uCnf, uAcc, rest_pack k.isLt h0 h1, cls_pack k.isLt h0 h1, label_eq]
    by_cases hi : inb b (c : EReal) <;> simp [hi]

/-! ## All the rows -/

/-- The kernel's sum over all the places is over the rows. -/
theorem allSum_rows (u : EReal → EReal → EReal) {b : ℕ} (hb : b < 15) (X : FVec Ideal S1000000x100 .f32) (Y : IVec S1000000 32) :
    allSum u b (packed X) (labels Y) = ∑ i : Fin 1000000, term u b (pack (rowOf X i)) (((Y (ix1 i)).toInt : ℝ) : EReal) := by
  have e : (1000448 : ℕ) = 1000000 + 448 := by norm_num
  have hA : ∀ n (h : n < 1000448), ext (N := 1000448) (packed (F := Ideal) X) n = (packed (F := Ideal) X (ix1 ⟨n, h⟩) : EReal) := fun n h => dif_pos h
  have hL : ∀ n (h : n < 1000448), ext (N := 1000448) (labels (F := Ideal) Y) n = (labels (F := Ideal) Y (ix1 ⟨n, h⟩) : EReal) := fun n h => dif_pos h
  rw [allSum, congrArg Finset.range e, Finset.sum_range_add, Finset.sum_range, Finset.sum_eq_zero (s := Finset.range 448), add_zero]
  · refine Finset.sum_congr rfl fun i _ => ?_
    rw [hA _ (by omega), hL _ (by omega), packed_at, labels_at, dif_pos i.isLt, dif_pos i.isLt]
  · intro n hn
    have := Finset.mem_range.1 hn
    rw [hA _ (by omega), packed_at, dif_neg (by simp)]
    exact term_pad u hb _

/-- A vector of fifteen is given by its elements. -/
theorem ext15 {f g : Vec Ideal S15 .f32} (h : ∀ b : Fin 15, f (ix1 b) = g (ix1 b)) : f = g := by
  funext j
  have e : j = ix1 (j 0) := by
    funext a
    obtain rfl := Fin.eq_zero a
    rfl
  rw [e]; exact h _

/-- Where each row has one maximum alone, the kernel's two results are the reference's. -/
theorem results_agree (X : FVec Ideal S1000000x100 .f32) (Y : IVec S1000000 32)
    (h : ∀ i : Fin 1000000, ∃ k : Fin 100, ∀ j, j ≠ k → rowOf X i j < rowOf X i k) :
    cut0 (F := Ideal) (finOf (rowsOf (packed X) (labels Y))) = Ref.mean (Ref.rowMax (Ref.soft X)) (Ref.rowMax (Ref.soft X))
    ∧ cut1 (F := Ideal) (finOf (rowsOf (packed X) (labels Y))) = Ref.mean (Ref.rowMax (Ref.soft X)) (Ref.hits X Y) := by
  have s := fun (b : Fin 15) (u : EReal → EReal → EReal) => allSum_rows u b.isLt X Y
  have r := fun (b : Fin 15) (i : Fin 1000000) => row_agree X Y i b.isLt (h i)
  constructor <;> refine ext15 fun b => ?_
  · rw [cut0_at, (fin_at _ _ _).1, Ref.mean_at]
    refine congrArg₂ quot ((s b _).trans (Finset.sum_congr rfl fun i _ => (r b i).1)) ((s b _).trans (Finset.sum_congr rfl fun i _ => (r b i).2.1))
  · rw [cut1_at, (fin_at _ _ _).2, Ref.mean_at]
    refine congrArg₂ quot ((s b _).trans (Finset.sum_congr rfl fun i _ => (r b i).1)) ((s b _).trans (Finset.sum_congr rfl fun i _ => (r b i).2.2))

end Cert.Proof.Hist

end
-- ==== Proof.Unique.lean ====
/-
  The precondition read at a row: one column alone holds the row's greatest entry.
-/
module

public import proofs.«01_k».proof.Pre_one_maximum
public import proofs.«01_k».proof.Proof.Row
public import Idealize.ShloMosaic.Lib.Pointwise

@[expose] public section

noncomputable section

namespace Cert.Proof.Hist

open Idealize.ShloMosaic Cert.Pre_one_maximum Cert.Pre_one_maximum.Facts

variable [Cert.Pre_one_maximum.Facts]

/-- The number of a row's entries equal to a number of the row. -/
def countEq (X : FVec Ideal S1000000x100 .f32) (M : FVec Ideal S1000000 .f32) : IVec S1000000 32 :=
  Host.reduce IntOp.addi (extui 32 (cmpf .oeq X (broadcastInDim S1000000x100 ![0, 1] bcast_S1000000x1_S1000000x100_0_1
    (broadcastInDim S1000000x1 ![0] bcast_S1000000_S1000000x1_0 M))) natLt_1_32) (constantI S_ 32 0#32) reducesTo_S1000000x100_S1000000_d1 h_S_

/-- The count of a row's entries equal to `M`'s number, as a fold over the columns. -/
theorem countEq_at (X : FVec Ideal S1000000x100 .f32) (M : FVec Ideal S1000000 .f32) (i : Fin 1000000) :
    countEq X M (ix1 i) = (Finset.univ : Finset (Fin 100)).fold IntOp.addi 0#32
      fun j => BitVec.setWidth 32 (BitVec.ofBool (decide (X (Idealize.ShloMosaic.ix2 i j) = M (ix1 i)))) := by
  pointwise [countEq]

/-- Folding the addition of words over a choice of one or zero gives the word of the number of the chosen. -/
theorem fold_count {ι : Type} [DecidableEq ι] (s : Finset ι) (p : ι → Prop) [DecidablePred p] :
    s.fold IntOp.addi 0#32 (fun j => BitVec.setWidth 32 (BitVec.ofBool (decide (p j)))) = BitVec.ofNat 32 (s.filter p).card := by
  induction s using Finset.induction_on with
  | empty => rfl
  | insert a s ha ih =>
    rw [Finset.fold_insert ha, ih, Finset.filter_insert]
    by_cases h : p a
    · rw [if_pos h, Finset.card_insert_of_notMem (fun e => ha (Finset.mem_filter.1 e).1), Nat.add_comm, BitVec.ofNat_add]
      simp [h, IntOp.addi]
    · rw [if_neg h]
      simp [h, IntOp.addi]

/-- A row's greatest entry. -/
theorem maxOf_at (X : FVec Ideal S1000000x100 .f32) (i : Fin 1000000) :
    Host.reduce FloatOps.maximumf X (constant S_ .f32 0xFF800000#32) reducesTo_S1000000x100_S1000000_d1 h_S_ (ix1 i)
      = top fun j => X (Idealize.ShloMosaic.ix2 i j) := by
  pointwise []
  rfl

/-- The precondition, of the counts. -/
theorem fn_eq (X : FVec Ideal S1000000x100 .f32) (Y : IVec S1000000 32) : fn X Y
    = cmpi .eq (countEq X (Host.reduce FloatOps.maximumf X (constant S_ .f32 0xFF800000#32) reducesTo_S1000000x100_S1000000_d1 h_S_))
      (broadcastInDim S1000000 ![] bcast_S_S1000000 (constantI S_ 32 1#32)) := rfl

/-- Words compared with ones, at a row. -/
theorem isOne_at (C : IVec S1000000 32) (i : Fin 1000000) (h : cmpi .eq C (broadcastInDim S1000000 ![] bcast_S_S1000000 (constantI S_ 32 1#32)) (ix1 i) = 1#1) :
    C (ix1 i) = 1#32 := by
  have h : BitVec.ofBool (C (ix1 i) == 1#32) = 1#1 := h
  generalize C (ix1 i) = w at h ⊢
  by_contra hn
  rw [beq_eq_false_iff_ne.2 hn] at h
  exact absurd h (by decide)

/-- Where the precondition holds, each row has one column whose entry is above every other. -/
theorem unique_of_pre (X : FVec Ideal S1000000x100 .f32) (Y : IVec S1000000 32) (h : fn X Y = fun _ => 1#1) (i : Fin 1000000) :
    ∃ k : Fin 100, ∀ j, j ≠ k → X (Idealize.ShloMosaic.ix2 i j) < X (Idealize.ShloMosaic.ix2 i k) := by
  have e := isOne_at _ i (congrFun ((fn_eq X Y).symm.trans h) (ix1 i))
  rw [countEq_at, maxOf_at, fold_count] at e
  generalize hx : (fun j : Fin 100 => X (Idealize.ShloMosaic.ix2 i j)) = x at e
  have hc := congrArg BitVec.toNat e
  have hle : (Finset.univ.filter fun j : Fin 100 => X (Idealize.ShloMosaic.ix2 i j) = top x).card ≤ 100 := (Finset.card_filter_le _ _).trans (by simp)
  rw [BitVec.toNat_ofNat, Nat.mod_eq_of_lt (by omega)] at hc
  obtain ⟨k, hk⟩ := Finset.card_eq_one.1 hc
  have hm : ∀ j : Fin 100, X (Idealize.ShloMosaic.ix2 i j) = top x ↔ j = k := fun j => by
    have := Finset.ext_iff.1 hk j
    simpa only [Finset.mem_filter, Finset.mem_univ, true_and, Finset.mem_singleton] using this
  subst hx
  refine ⟨k, fun j hj => ?_⟩
  rw [(hm k).2 rfl]
  exact lt_of_le_of_ne (le_top' (fun j : Fin 100 => X (Idealize.ShloMosaic.ix2 i j)) j) fun e => hj ((hm j).1 e)

end Cert.Proof.Hist

end
-- ==== Proof.Algebraic.lean ====
/-
  The kernel and the reference end with the same two results at the extended reals.
-/
module

public import proofs.«01_k».proof.Defs
public import proofs.«01_k».proof.Proof.Frames
public import proofs.«01_k».proof.Proof.Agree
public import proofs.«01_k».proof.Proof.Unique
public import proofs.«01_k».proof.Proof.Gen.Pre_one_maximum

@[expose] public section

noncomputable section

namespace Cert.Proof.Hist

open Cert.KernelIdeal Cert.KernelIdeal.Gen
open Idealize.ShloMosaic Idealize.ShloMosaic.TcCoe Idealize.SL.Sem Idealize.ShloMosaic.StableHlo

/-- The kernel runs from any memory and ends with its two results cut from the last kernel's array, its arguments unchanged. -/
theorem run_results (m : (ℓ : Loc nD τ sig) → Buf (Elt Ideal) ℓ) (g : Dev nD → PrngReg) :
    θ_run (Cert.KernelIdeal.defs (F := Ideal)) (Cert.KernelIdeal.threads (F := Ideal)) ⟨m, fun _ => 0, g⟩ (fun r => ∀ c : Dev nD,
      r.2.mem ((c.tc : Thread nD τ).loc main_v13)
        = cut0 (finOf (rowsOf (packed (m ((c.tc : Thread nD τ).loc main_arg0))) (labels (m ((c.tc : Thread nD τ).loc main_arg1)))))
      ∧ r.2.mem ((c.tc : Thread nD τ).loc main_v15)
        = cut1 (finOf (rowsOf (packed (m ((c.tc : Thread nD τ).loc main_arg0))) (labels (m ((c.tc : Thread nD τ).loc main_arg1)))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run Cert.KernelIdeal.defs _ _).mono (fun r h c =>
    ⟨(h.1 c _ (mem_ucRefs main_v13 rfl)).trans ((VF_v13 m c).trans (congrArg cut0 (VE_v11 m c))),
      (h.1 c _ (mem_ucRefs main_v15 rfl)).trans ((VF_v15 m c).trans (congrArg cut1 (VE_v11 m c))),
      (h.1 c _ (mem_ucRefs main_arg0 rfl)).trans (VF_arg m c main_arg0 (by decide)), (h.1 c _ (mem_ucRefs main_arg1 rfl)).trans (VF_arg m c main_arg1 (by decide))⟩)
    (run_main m g)

/-- The reference's two results from arguments equal to the kernel's are the kernel's. -/
theorem results_of_eq {X X' : FVec Ideal S1000000x100 .f32} {Y Y' : IVec S1000000 32} (hX : X' = X) (hY : Y' = Y)
    (h : ∀ i : Fin 1000000, ∃ k : Fin 100, ∀ j, j ≠ k → rowOf X i j < rowOf X i k) :
    Ref.mean (Ref.rowMax (Ref.soft X')) (Ref.rowMax (Ref.soft X')) = cut0 (F := Ideal) (finOf (rowsOf (packed X) (labels Y)))
    ∧ Ref.mean (Ref.rowMax (Ref.soft X')) (Ref.hits X' Y') = cut1 (F := Ideal) (finOf (rowsOf (packed X) (labels Y))) := by
  subst hX hY
  exact ⟨(results_agree _ _ h).1.symm, (results_agree _ _ h).2.symm⟩

/-- From arguments that agree, each row having one maximum alone, both programs end with the same two results. -/
theorem algebraic : Cert.algebraic_KernelIdeal_ReferenceIdeal_pre_one_maximum := by
  intro m g m' g' hpre hagree
  refine ⟨_, _, run_results m g, ?_⟩
  refine (θ_run Cert.ReferenceIdeal.defs _ _).mono (fun r h c => ?_) (Ref.run (F := Ideal) m' g')
  have e := results_of_eq (hagree c).1 (hagree c).2 (unique_of_pre _ _ (hpre c))
  exact ⟨(h c).1.trans e.1, (h c).2.1.trans e.2, (h c).2.2⟩

/-- The idealized kernel terminates under the precondition, its arguments unchanged. -/
theorem frame_ideal_pre : Cert.quiescent_KernelIdeal_pre_one_maximum := fun m g _ => frame_any m g

end Cert.Proof.Hist

end
-- ==== Proof.lean ====
/-
  The proof of `Cert.Claim`: the frames, the named constants, the results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_one_maximum
public import proofs.«01_k».proof.Proof.Reference
public import proofs.«01_k».proof.Proof.Frames
public import proofs.«01_k».proof.Proof.Algebraic
public import Idealize.ShloMosaic.Lib.Quiescent

@[expose] public section

noncomputable section

namespace Cert.Proof

open Idealize.ShloMosaic Idealize.SL.Sem

/-- The reference terminates, its arguments unchanged. -/
theorem frame_reference : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Ref.run (F := Ideal) m ρ)

/-- The reference terminates under the precondition, its arguments unchanged. -/
theorem frame_reference_pre : Cert.quiescent_ReferenceIdeal_pre_one_maximum := fun m ρ _ => frame_reference m ρ trivial

theorem claim : Cert.Claim := ⟨Cert.Kernel.Gen.facts, Cert.KernelIdeal.Gen.facts, Cert.ReferenceIdeal.Gen.facts, Cert.Pre_one_maximum.Gen.facts,
  Hist.frame_kernel, Hist.frame_ideal, Hist.frame_ideal_pre, frame_reference, frame_reference_pre, Hist.preserves, Hist.algebraic⟩

end Cert.Proof

end
